-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_full_and_states_finite [hPre_mask_full_and_states_finite : Cert.Pre_mask_full_and_states_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mask_full_and_states_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_full_and_states_finite [hPre_mask_full_and_states_finite : Cert.Pre_mask_full_and_states_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_full_and_states_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mask_full_and_states_finite [hKernelIdeal : Cert.KernelIdeal.Facts] [hPre_mask_full_and_states_finite : Cert.Pre_mask_full_and_states_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_full_and_states_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mask_full_and_states_finite [hReferenceIdeal : Cert.ReferenceIdeal.Facts] [hPre_mask_full_and_states_finite : Cert.Pre_mask_full_and_states_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_full_and_states_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_mask_full_and_states_finite [hKernelIdeal : Cert.KernelIdeal.Facts] [hReferenceIdeal : Cert.ReferenceIdeal.Facts] [hPre_mask_full_and_states_finite : Cert.Pre_mask_full_and_states_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_full_and_states_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_mask_full_and_states_finite : Cert.Pre_mask_full_and_states_finite.Facts),
    quiescent_Kernel (hKernel := hKernel)
    ∧ quiescent_KernelIdeal (hKernelIdeal := hKernelIdeal)
    ∧ quiescent_KernelIdeal_pre_mask_full_and_states_finite (hKernelIdeal := hKernelIdeal) (hPre_mask_full_and_states_finite := hPre_mask_full_and_states_finite)
    ∧ quiescent_ReferenceIdeal (hReferenceIdeal := hReferenceIdeal)
    ∧ quiescent_ReferenceIdeal_pre_mask_full_and_states_finite (hReferenceIdeal := hReferenceIdeal) (hPre_mask_full_and_states_finite := hPre_mask_full_and_states_finite)
    ∧ preserves_Kernel_KernelIdeal
    ∧ algebraic_KernelIdeal_ReferenceIdeal_pre_mask_full_and_states_finite (hKernelIdeal := hKernelIdeal) (hReferenceIdeal := hReferenceIdeal) (hPre_mask_full_and_states_finite := hPre_mask_full_and_states_finite)
-- ==== Pre_mask_full_and_states_finite.lean ====
abbrev S8x2048x1024 : Shape := ⟨3, ![8, 2048, 1024]⟩
abbrev S8x2048 : Shape := ⟨2, ![8, 2048]⟩
abbrev S8x2048x2 : Shape := ⟨3, ![8, 2048, 2]⟩
abbrev S_ : Shape := ⟨0, ![]⟩

class Facts : Prop where
  bcast_S_S8x2048x1024 : S_.BroadcastsInDim S8x2048x1024 (![] : Fin 0 → Fin S8x2048x1024.rank)
  bcast_S8x2048_S8x2048x1024_0_1 : S8x2048.BroadcastsInDim S8x2048x1024 (![0, 1] : Fin 2 → Fin S8x2048x1024.rank)

variable [Facts]

def fn {F : FTy → Type} [FloatOps F] (main_arg0 : FVec F S8x2048x1024 .f32) (main_arg1 : IVec S8x2048 1) (main_arg2 : FVec F S8x2048x2 .f32) (main_arg3 : IVec S8x2048 1) : IVec S8x2048x1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : IVec S8x2048x1024 1 := broadcastInDim S8x2048x1024 ![0, 1] bcast_S8x2048_S8x2048x1024_0_1 main_arg1
  let main_v4 : IVec S8x2048x1024 1 := andi main_v2 main_v3
  main_v4
-- ==== Kernel.lean ====
abbrev S8x2048x1024 : Shape := ⟨3, ![8, 2048, 1024]⟩
abbrev S8x2048 : Shape := ⟨2, ![8, 2048]⟩
abbrev S8x2048x2 : Shape := ⟨3, ![8, 2048, 2]⟩
abbrev S8x2048x1 : Shape := ⟨3, ![8, 2048, 1]⟩
abbrev S8x256 : Shape := ⟨2, ![8, 256]⟩
abbrev S8x256x1024 : Shape := ⟨3, ![8, 256, 1024]⟩
abbrev S8x1024 : Shape := ⟨2, ![8, 1024]⟩
abbrev S8x8x1024 : Shape := ⟨3, ![8, 8, 1024]⟩
abbrev S8 : Shape := ⟨1, ![8]⟩
abbrev S8x1 : Shape := ⟨2, ![8, 1]⟩
abbrev S1x8x1024 : Shape := ⟨3, ![1, 8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i1⟩
  | .hbm, ⟨2, _⟩ => ⟨S8x2048x2, .f32⟩
  | .hbm, ⟨3, _⟩ => ⟨S8x2048, .i1⟩
  | .hbm, ⟨4, _⟩ => ⟨S8x2048x1, .f32⟩
  | .hbm, ⟨5, _⟩ => ⟨S8x2048, .f32⟩
  | .hbm, ⟨6, _⟩ => ⟨S8x2048x1024, .f32⟩
  | .local _ .vmem, ⟨0, _⟩ => ⟨S8x256, .f32⟩
  | .local _ .vmem, ⟨1, _⟩ => ⟨S8x256, .f32⟩
  | .local _ .vmem, ⟨2, _⟩ => ⟨S8x256x1024, .f32⟩
  | .local _ .vmem, ⟨3, _⟩ => ⟨S8x256x1024, .f32⟩
  | .local _ .vmem, ⟨4, _⟩ => ⟨S8x256x1024, .f32⟩
  | .local _ .vmem, ⟨5, _⟩ => ⟨S8x256x1024, .f32⟩
  | .local _ .vmem, ⟨6, _⟩ => ⟨S8x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_5 : BitVec 32 := 0#32
  let c32_i32 : BitVec 32 := 32#32
  let v11 : BitVec 32 := Scalar.addi c0_i32_5 c32_i32
  let c1_i32 : BitVec 32 := 1#32
  ⟨c0_i32_5, v11, c1_i32⟩
def k0_mult1 (k0_t1 : Fin k0_t1_loop.trips) : BitVec 32 :=
  let c0_i32_5 : BitVec 32 := 0#32
  let c1_i32 : BitVec 32 := 1#32
  let arg5 : BitVec 32 := Scf.iv c0_i32_5 c1_i32 k0_t1
  let c8_i32 : BitVec 32 := 8#32
  let v16 : BitVec 32 := Scalar.muli arg5 c8_i32
  v16
def k0_off1 (k0_t1 : Fin k0_t1_loop.trips) : Fin 3 → Nat :=
  let c0_9 : Index := 0#32
  let c0_i32_5 : BitVec 32 := 0#32
  let c1_i32 : BitVec 32 := 1#32
  let arg5 : BitVec 32 := Scf.iv c0_i32_5 c1_i32 k0_t1
  let c8_i32 : BitVec 32 := 8#32
  let v16 : BitVec 32 := Scalar.muli arg5 c8_i32
  let v17 : BitVec 32 := v16
  let v18 : Index := Scalar.indexCast v17
  let c0_10 : Index := 0#32
  ![0, v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x2048x1024 : Shape := ⟨3, ![8, 2048, 1024]⟩
abbrev S8x2048 : Shape := ⟨2, ![8, 2048]⟩
abbrev S8x2048x2 : Shape := ⟨3, ![8, 2048, 2]⟩
abbrev S8x2048x1 : Shape := ⟨3, ![8, 2048, 1]⟩
abbrev S_ : Shape := ⟨0, ![]⟩
abbrev S2048 : Shape := ⟨1, ![2048]⟩
abbrev S1x2048 : Shape := ⟨2, ![1, 2048]⟩
abbrev S1 : Shape := ⟨1, ![1]⟩
abbrev S1x1x1 : Shape := ⟨3, ![1, 1, 1]⟩
abbrev S8x1024 : Shape := ⟨2, ![8, 1024]⟩
abbrev S2048x8x1024 : Shape := ⟨3, ![2048, 8, 1024]⟩
abbrev S2048x8 : Shape := ⟨2, ![2048, 8]⟩
abbrev S1x8x1024 : Shape := ⟨3, ![1, 8, 1024]⟩
abbrev S1x8 : Shape := ⟨2, ![1, 8]⟩
abbrev S8 : Shape := ⟨1, ![8]⟩
abbrev S8x1 : Shape := ⟨2, ![8, 1]⟩
abbrev S8x2048x1024x1 : Shape := ⟨4, ![8, 2048, 1024, 1]⟩
abbrev S1x1x1x1 : Shape := ⟨4, ![1, 1, 1, 1]⟩

abbrev nBuf : Space → Nat
  | .hbm => 135
  | .vmem => 0
  | .smem => 0
  | _ => 0

abbrev hbmTy0_0 (i : Nat) : BufTy := match i % 128 with
  | 0 => ⟨S8x2048x1024, .f32⟩
  | 1 => ⟨S8x2048, .i1⟩
  | 2 => ⟨S8x2048x2, .f32⟩
  | 3 => ⟨S8x2048, .i1⟩
  | 4 => ⟨S8x2048x1, .f32⟩
  | 5 => ⟨S8x2048, .f32⟩
  | 6 => ⟨S_, .f32⟩
  | 7 => ⟨S_, .f32⟩
  | 8 => ⟨S_, .f32⟩
  | 9 => ⟨S8x2048, .f32⟩
  | 10 => ⟨S8x2048, .f32⟩
  | 11 => ⟨S_, .f32⟩
  | 12 => ⟨S8x2048, .f32⟩
  | 13 => ⟨S8x2048, .f32⟩
  | 14 => ⟨S2048, .i32⟩
  | 15 => ⟨S1x2048, .i32⟩
  | 16 => ⟨S8x2048, .i1⟩
  | 17 => ⟨S8x2048, .i32⟩
  | 18 => ⟨S_, .i32⟩
  | 19 => ⟨S8x2048, .i32⟩
  | 20 => ⟨S8x2048, .i32⟩
  | 21 => ⟨S8x2048, .i32⟩
  | 22 => ⟨S8x2048, .i32⟩
  | 23 => ⟨S8x2048, .i32⟩
  | 24 => ⟨S8x2048, .i32⟩
  | 25 => ⟨S8x2048, .i32⟩
  | 26 => ⟨S_, .i32⟩
  | 27 => ⟨S8x2048, .i32⟩
  | 28 => ⟨S8x2048, .i1⟩
  | 29 => ⟨S_, .i32⟩
  | 30 => ⟨S8x2048, .i32⟩
  | 31 => ⟨S8x2048, .i32⟩
  | 32 => ⟨S8x2048, .i32⟩
  | 33 => ⟨S8x2048x1, .i32⟩
  | 34 => ⟨S1, .i32⟩
  | 35 => ⟨S_, .i32⟩
  | 36 => ⟨S8x2048x1, .i32⟩
  | 37 => ⟨S8x2048x1, .i1⟩
  | 38 => ⟨S1x1x1, .i32⟩
  | 39 => ⟨S8x2048x1, .i32⟩
  | 40 => ⟨S8x2048x1, .i1⟩
  | 41 => ⟨S8x2048x1, .i1⟩
  | 42 => ⟨S_, .i1⟩
  | 43 => ⟨S8x2048, .i1⟩
  | 44 => ⟨S8x2048, .f32⟩
  | 45 => ⟨S_, .f32⟩
  | 46 => ⟨S8x2048, .f32⟩
  | 47 => ⟨S8x2048, .f32⟩
  | 48 => ⟨S_, .f32⟩
  | 49 => ⟨S8x1024, .f32⟩
  | 50 => ⟨S2048x8x1024, .f32⟩
  | 51 => ⟨S2048x8, .f32⟩
  | 52 => ⟨S_, .f32⟩
  | 53 => ⟨S2048x8x1024, .f32⟩
  | 54 => ⟨S_, .i32⟩
  | 55 => ⟨S2048x8x1024, .f32⟩
  | 56 => ⟨S2048x8, .f32⟩
  | 57 => ⟨S_, .i32⟩
  | 58 => ⟨S8x1024, .f32⟩
  | 59 => ⟨S2048x8x1024, .f32⟩
  | 60 => ⟨S_, .i32⟩
  | 61 => ⟨S_, .i1⟩
  | 62 => ⟨S_, .i32⟩
  | 63 => ⟨S_, .i32⟩
  | 64 => ⟨S1x8x1024, .f32⟩
  | 65 => ⟨S8x1024, .f32⟩
  | 66 => ⟨S_, .i32⟩
  | 67 => ⟨S1x8, .f32⟩
  | 68 => ⟨S8, .f32⟩
  | 69 => ⟨S8x1, .f32⟩
  | 70 => ⟨S_, .f32⟩
  | 71 => ⟨S8x1, .f32⟩
  | 72 => ⟨S8x1, .f32⟩
  | 73 => ⟨S8x1024, .f32⟩
  | 74 => ⟨S8x1024, .f32⟩
  | 75 => ⟨S8x1, .f32⟩
  | 76 => ⟨S8x1024, .f32⟩
  | 77 => ⟨S8x1024, .f32⟩
  | 78 => ⟨S8x1024, .f32⟩
  | 79 => ⟨S1x8x1024, .f32⟩
  | 80 => ⟨S_, .i32⟩
  | 81 => ⟨S_, .i32⟩
  | 82 => ⟨S2048x8x1024, .f32⟩
  | 83 => ⟨S_, .i32⟩
  | 84 => ⟨S_, .i32⟩
  | 85 => ⟨S8x2048x1024, .f32⟩
  | 86 => ⟨S8x2048, .i32⟩
  | 87 => ⟨S_, .i32⟩
  | 88 => ⟨S8, .i32⟩
  | 89 => ⟨S2048, .i32⟩
  | 90 => ⟨S1x2048, .i32⟩
  | 91 => ⟨S8x1, .i32⟩
  | 92 => ⟨S8x2048, .i32⟩
  | 93 => ⟨S8x2048, .i32⟩
  | 94 => ⟨S8x2048, .i1⟩
  | 95 => ⟨S8x2048x1, .i1⟩
  | 96 => ⟨S_, .f32⟩
  | 97 => ⟨S_, .f32⟩
  | 98 => ⟨S8x2048x1024, .i1⟩
  | 99 => ⟨S8x2048x1024, .f32⟩
  | 100 => ⟨S8x2048x1024, .f32⟩
  | 101 => ⟨S8x2048, .i32⟩
  | 102 => ⟨S_, .i32⟩
  | 103 => ⟨S_, .i32⟩
  | 104 => ⟨S8x2048, .i32⟩
  | 105 => ⟨S_, .i32⟩
  | 106 => ⟨S8x2048, .i32⟩
  | 107 => ⟨S8x2048, .i32⟩
  | 108 => ⟨S_, .i32⟩
  | 109 => ⟨S8x2048, .i32⟩
  | 110 => ⟨S8x2048, .i32⟩
  | 111 => ⟨S8x2048x1, .i32⟩
  | 112 => ⟨S8x2048x1024, .i32⟩
  | 113 => ⟨S_, .i32⟩
  | 114 => ⟨S8x2048x1024, .i32⟩
  | 115 => ⟨S8x2048x1024, .i1⟩
  | 116 => ⟨S_, .i32⟩
  | 117 => ⟨S8x2048x1024, .i32⟩
  | 118 => ⟨S8x2048x1024, .i32⟩
  | 119 => ⟨S8x2048x1024, .i32⟩
  | 120 => ⟨S8x2048x1024x1, .i32⟩
  | 121 => ⟨S1, .i32⟩
  | 122 => ⟨S_, .i32⟩
  | 123 => ⟨S8x2048x1024x1, .i32⟩
  | 124 => ⟨S8x2048x1024x1, .i1⟩
  | 125 => ⟨S1x1x1x1, .i32⟩
  | 126 => ⟨S8x2048x1024x1, .i32⟩
  | 127 => ⟨S8x2048x1024x1, .i1⟩
  | _ => ⟨S8x2048x1024, .f32⟩

abbrev hbmTy0_1 (i : Nat) : BufTy := match i % 128 with
  | 0 => ⟨S8x2048x1024x1, .i1⟩
  | 1 => ⟨S_, .i1⟩
  | 2 => ⟨S8x2048x1024, .i1⟩
  | 3 => ⟨S8x2048x1024, .f32⟩
  | 4 => ⟨S_, .f32⟩
  | 5 => ⟨S8x2048x1024, .f32⟩
  | 6 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_v1_0 : Ref sig .tc := ⟨.hbm, 24, rfl⟩
abbrev main_v11 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_c_2 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_3 : Ref sig .tc := ⟨.hbm, 42, rfl⟩
abbrev main_call2_v12 : Ref sig .tc := ⟨.hbm, 43, rfl⟩
abbrev main_call2_v13 : Ref sig .tc := ⟨.hbm, 44, rfl⟩
abbrev main_call2_cst : Ref sig .tc := ⟨.hbm, 45, rfl⟩
abbrev main_call2_v14 : Ref sig .tc := ⟨.hbm, 46, rfl⟩
abbrev main_v12 : Ref sig .tc := ⟨.hbm, 47, rfl⟩
abbrev main_cst_1 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_2 : Ref sig .tc := ⟨.hbm, 52, rfl⟩
abbrev main_v16 : Ref sig .tc := ⟨.hbm, 53, rfl⟩
abbrev main_c_3 : Ref sig .tc := ⟨.hbm, 54, rfl⟩
abbrev main_v17_0 : Ref sig .tc := ⟨.hbm, 55, rfl⟩
abbrev main_v17_1 : Ref sig .tc := ⟨.hbm, 56, rfl⟩
abbrev main_v17_2 : Ref sig .tc := ⟨.hbm, 57, rfl⟩
abbrev main_v17_3 : Ref sig .tc := ⟨.hbm, 58, rfl⟩
abbrev main_v17_4 : Ref sig .tc := ⟨.hbm, 59, rfl⟩
abbrev main_while0c_c_12 : Ref sig .tc := ⟨.hbm, 60, rfl⟩
abbrev main_while0c_v38 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_v0 : Ref sig .tc := ⟨.hbm, 64, rfl⟩
abbrev main_while0b_v38 : Ref sig .tc := ⟨.hbm, 65, rfl⟩
abbrev main_while0b_call4_c : Ref sig .tc := ⟨.hbm, 66, rfl⟩
abbrev main_while0b_call4_v0 : Ref sig .tc := ⟨.hbm, 67, rfl⟩
abbrev main_while0b_v39 : Ref sig .tc := ⟨.hbm, 68, rfl⟩
abbrev main_while0b_v40 : Ref sig .tc := ⟨.hbm, 69, rfl⟩
abbrev main_while0b_cst_12 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_call5_v0 : Ref sig .tc := ⟨.hbm, 79, rfl⟩
abbrev main_while0b_call5_c : Ref sig .tc := ⟨.hbm, 80, rfl⟩
abbrev main_while0b_call5_c_0 : Ref sig .tc := ⟨.hbm, 81, rfl⟩
abbrev main_while0b_v49 : Ref sig .tc := ⟨.hbm, 82, rfl⟩
abbrev main_while0b_c_13 : Ref sig .tc := ⟨.hbm, 83, rfl⟩
abbrev main_while0b_v50 : Ref sig .tc := ⟨.hbm, 84, rfl⟩
abbrev main_v18 : Ref sig .tc := ⟨.hbm, 85, rfl⟩
abbrev main_v19 : Ref sig .tc := ⟨.hbm, 86, rfl⟩
abbrev main_c_4 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_cst_5 : Ref sig .tc := ⟨.hbm, 96, rfl⟩
abbrev main_call6_v0 : Ref sig .tc := ⟨.hbm, 97, rfl⟩
abbrev main_call6_v1 : Ref sig .tc := ⟨.hbm, 98, rfl⟩
abbrev main_call6_v2 : Ref sig .tc := ⟨.hbm, 99, rfl⟩
abbrev main_v28 : Ref sig .tc := ⟨.hbm, 100, rfl⟩
abbrev main_v29 : Ref sig .tc := ⟨.hbm, 101, rfl⟩
abbrev main_call7_call0_c : Ref sig .tc := ⟨.hbm, 102, rfl⟩
abbrev main_call7_call0_v0 : Ref sig .tc := ⟨.hbm, 103, rfl⟩
abbrev main_v30 : Ref sig .tc := ⟨.hbm, 104, rfl⟩
abbrev main_c_6 : Ref sig .tc := ⟨.hbm, 105, rfl⟩
abbrev main_v31 : Ref sig .tc := ⟨.hbm, 106, rfl⟩
abbrev main_v32 : Ref sig .tc := ⟨.hbm, 107, rfl⟩
abbrev main_c_7 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_call8_c : Ref sig .tc := ⟨.hbm, 113, rfl⟩
abbrev main_call8_v0 : Ref sig .tc := ⟨.hbm, 114, rfl⟩
abbrev main_call8_v1 : Ref sig .tc := ⟨.hbm, 115, rfl⟩
abbrev main_call8_c_0 : Ref sig .tc := ⟨.hbm, 116, rfl⟩
abbrev main_call8_v2 : Ref sig .tc := ⟨.hbm, 117, rfl⟩
abbrev main_call8_v3 : Ref sig .tc := ⟨.hbm, 118, rfl⟩
abbrev main_call8_v4 : Ref sig .tc := ⟨.hbm, 119, rfl⟩
abbrev main_call8_v5 : Ref sig .tc := ⟨.hbm, 120, rfl⟩
abbrev main_call8_c_1 : Ref sig .tc := ⟨.hbm, 121, rfl⟩
abbrev main_call8_c_2 : Ref sig .tc := ⟨.hbm, 122, rfl⟩
abbrev main_call8_v6 : Ref sig .tc := ⟨.hbm, 123, rfl⟩
abbrev main_call8_v7 : Ref sig .tc := ⟨.hbm, 124, rfl⟩
abbrev main_call8_v8 : Ref sig .tc := ⟨.hbm, 125, rfl⟩
abbrev main_call8_v9 : Ref sig .tc := ⟨.hbm, 126, rfl⟩
abbrev main_call8_v10 : Ref sig .tc := ⟨.hbm, 127, rfl⟩
abbrev main_call8_v11 : Ref sig .tc := ⟨.hbm, 128, rfl⟩
abbrev main_call8_c_3 : Ref sig .tc := ⟨.hbm, 129, rfl⟩
abbrev main_call8_v12 : Ref sig .tc := ⟨.hbm, 130, rfl⟩
abbrev main_call8_v13 : Ref sig .tc := ⟨.hbm, 131, rfl⟩
abbrev main_call8_cst : Ref sig .tc := ⟨.hbm, 132, rfl⟩
abbrev main_call8_v14 : Ref sig .tc := ⟨.hbm, 133, rfl⟩
abbrev main_v37 : Ref sig .tc := ⟨.hbm, 134, rfl⟩

abbrev nD : Nat := 1
abbrev τ : Topo := Topo.v7x

variable {F : FTy → Type} [FloatOps F]

abbrev main_while0_count : Scf.Loop 32 := ⟨0#32, 2048#32, 1#32⟩
-- ==== Proof.KernelFrame.lean ====
/-
  The printed kernel's frame, at any float values: it runs to its end without fault, leaves its arguments as they were and
  every semaphore counter at zero. Nothing is said of what it computes, so the output block and the state carried in the
  scratch are at some contents throughout, which nothing names.
-/
module

public import proofs.«01_k».proof.Proof.Gen.Kernel.Loops
public import proofs.«01_k».proof.Proof.Gen.Kernel.Frame
public import Idealize.ShloMosaic.Lib.Claim

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligation)
open Cert.Kernel Cert.Kernel.Gen

variable {F : FTy → Type} [FloatOps F]

local notation "𝕄" => MT nD τ sig Unit (Elt F) ℕ (UR sig nD τ) ℕ

/-! ## The loop -/

section
variable (𝒱 : Variants) (c : Dev nD) (bd : Option 𝒱.V) (i : grid0.Coords)
  (arg1 : Memref sig .tc .vmem S8x256 .f32) (harg1 : arg1.IsWhole) (arg2 : Memref sig .tc .vmem S8x256x1024 .f32) (harg2 : arg2.IsWhole)
  (arg3 : Memref sig .tc .vmem S8x256x1024 .f32) (harg3 : arg3.IsWhole) (arg4 : Memref sig .tc .vmem S8x1024 .f32) (harg4 : arg4.IsWhole)
  (v : Vec F S8x256 .f32) (lanes : IVec S8x256 32) (Xf : BufTy.Contents (Elt F) arg2.view.ty) (init : Vec F S8x1024 .f32)

set_option warn.classDefReducibility false in
/-- A trip reads the block of hidden states, which stays, and writes into the output block, whatever the state it is handed. -/
@[sl_loop] def loopHolds (E : Set ℕ) :
    LoopInvTy_k0_t1 (F := F) Unit ℕ (UR sig nD τ) ℕ 𝒱 c bd E i arg1 harg1 arg2 harg2 arg3 harg3 arg4 harg4 v lanes init where
  inv _ _ := iprop((arg2.view.loc (c : Thread nD τ) ↦[arg2.view.set]{fullShare} Xf)
    ∗ (∃ f, (arg3.view.loc (c : Thread nD τ) ↦[arg3.view.set]{fullShare} f)))
  step k acc := by
    unfold k0_t1_body
    iintro ⟨HR_arg2, ⟨%f_arg3, HW_arg3⟩⟩
    sl_exec
    sl_step
    isplitl [HR_arg2]; · iexact HR_arg2
    iexists _; iexact HW_arg3

end

/-! ## One grid point -/

/-- The condition under which the kernel clears its scratch: the grid coordinate is zero. -/
abbrev atStart (i : grid0.Coords) : Prop :=
  (Scalar.cmpi .ne (Scalar.extui (Scalar.cmpi .eq (BitVec.ofNat 32 (i 0).val) 0#32)) 0#32) = 1#1

section
variable (c : Dev nD) (i : grid0.Coords)
  (arg1 : Memref sig .tc .vmem S8x256 .f32) (harg1 : arg1.IsWhole) (arg2 : Memref sig .tc .vmem S8x256x1024 .f32) (harg2 : arg2.IsWhole)
  (arg3 : Memref sig .tc .vmem S8x256x1024 .f32) (harg3 : arg3.IsWhole) (arg4 : Memref sig .tc .vmem S8x1024 .f32) (harg4 : arg4.IsWhole)
  (x0 : Vec F S8x256 .f32) (x1 : Vec F S8x256x1024 .f32)

/-- At a grid point the kernel keeps its input blocks; its output block and its scratch are at some contents before and
    after. -/
theorem body (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ (∃ d, owns (c : Thread nD τ) arg3 fullShare d) ∗ (∃ d, owns (c : Thread nD τ) arg4 fullShare d)) -∗ K ⟨⟩))
      ⊢ wp frame (wpE (defs₀ (F := F)) Variants.none c none) E
          (cc0__ema_chunk_kernel (F := F) i arg1 harg1 arg2 harg2 arg3 harg3 arg4 harg4) K := by
  simp only [cc0__ema_chunk_kernel_eq_skeleton]; unfold cc0__ema_chunk_kernel_skel
  unfold owns
  by_cases hc0 : atStart i
  all_goals
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    iexists _, _; isplitr; swap; · iexact HS0
    ipureintro; rfl

end

/-! ## The launch -/

section
variable (m : (ℓ : Loc nD τ sig) → Buf (Elt F) ℓ) (ρ : Dev nD → PrngReg)

/-- The windows of whose contents nothing is said: the output's. -/
def forgotten : Fin 3 → Bool := fun w => w.val == 2

/-- The current staging buffers at a point, and the scratch. -/
abbrev mem0 (t : Fin cfg0.N) : Memref sig .tc .vmem S8x256 .f32 := win0_0.stage (cfg0.slots t 0)
abbrev mem1 (t : Fin cfg0.N) : Memref sig .tc .vmem S8x256x1024 .f32 := win0_1.stage (cfg0.slots t 1)
abbrev mem2 (t : Fin cfg0.N) : Memref sig .tc .vmem S8x256x1024 .f32 := win0_2.stage (cfg0.slots t 2)
abbrev scr : Memref sig .tc .vmem S8x1024 .f32 := Memref.whole cc0_scratch0

/-- The invariant of every point: the scratch at some contents, and the generator register. -/
theorem between_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The proof data: the arrays as the region finds them, each input block in place, the output block unnamed. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem dat_A (c : Dev nD) (w : Fin cfg0.W) : (dat m 0 c).A w = V m c (Pipeline.arrRef spec0 w) := by dsimp only [dat]

theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]

theorem before_0 (c : Dev nD) (t : Fin cfg0.N) (d) : (dat m 0 c).before 0 t d = iblk m c 0 t :=
  before0_0_of m (dat m 0 c) (dat_A m c 0) (after_0 m c) t d
theorem before_1 (c : Dev nD) (t : Fin cfg0.N) (d) : (dat m 0 c).before 1 t d = iblk m c 1 t :=
  before0_1_of m (dat m 0 c) (dat_A m c 1) (after_1 m c) t d

/-- What the body is called with at point `t`, -/
def pre (c : Dev nD) (t : Fin cfg0.N) : sProp 𝕄 :=
  iprop((dat m 0 c).Φ t.castSucc ∗ (dat m 0 c).owesAt () t.castSucc
    ∗ (∃ d, owns (c : Thread nD τ) (mem0 t) fullShare ((dat m 0 c).before 0 t d))
    ∗ (∃ d, owns (c : Thread nD τ) (mem1 t) fullShare ((dat m 0 c).before 1 t d))
    ∗ (∃ d, owns (c : Thread nD τ) (mem2 t) fullShare d))

/-- and what it returns. -/
def post (c : Dev nD) (t : Fin cfg0.N) : sProp 𝕄 :=
  iprop((dat m 0 c).Φ t.succ ∗ (dat m 0 c).owesAt () t.succ
    ∗ owns (c : Thread nD τ) (mem0 t) fullShare ((dat m 0 c).after 0 t)
    ∗ owns (c : Thread nD τ) (mem1 t) fullShare ((dat m 0 c).after 1 t)
    ∗ (∃ d, owns (c : Thread nD τ) (mem2 t) fullShare d))

/-- The body at any point takes the one to the other. -/
theorem point_sound (c : Dev nD) (t : Fin cfg0.N) :
    pre m c t ⊢ wp frame (wpE (defs₀ (F := F)) Variants.none c none) Set.univ (bodyAt0 t) (fun _ => post m c t) := by
  unfold pre post bodyAt0
  simp only [before_0, before_1]
  rw [show (dat m 0 c).owesAt () t.succ = (dat m 0 c).owesAt () t.castSucc from rfl, after_0, after_1,
    show (dat m 0 c).Φ t.succ = Pipeline.ΦA spec0 c from rfl, show (dat m 0 c).Φ t.castSucc = Pipeline.ΦA spec0 c from rfl,
    between_eq]
  iintro ⟨⟨HS0, Hg⟩, Ho, ⟨%d0, H0⟩, ⟨%d1, H1⟩, ⟨%d2, H2⟩⟩
  iapply (body c (grid0.coords t) _ _ _ _ _ _ _ _ (iblk m c 0 t) (iblk m c 1 t) Set.univ _)
  isplitl [H0]; · iexact H0
  isplitl [H1]; · iexact H1
  isplitl [H2]; · iexists _; iexact H2
  isplitl [HS0]; · iexact HS0
  iintro ⟨H0, H1, H2, HS0⟩
  isplitl [HS0 Hg]
  · isplitl [HS0]; · iexact HS0
    iexact Hg
  isplitl [Ho]; · iexact Ho
  isplitl [H0]; · iexact H0
  isplitl [H1]; · iexact H1
  iexact H2

theorem row_eq (t : Fin cfg0.N) : defs₀ (F := F) .tc cfg0.body (cfg0.bodyArgs t (cfg0.slots t)) = bodyAt0 t := by
  unfold defs₀; rw [Defs.onTc_tc]

/-- The library's obligation on the body, at every point. -/
theorem obligation (c : Dev nD) : BodyObligation (dat (F := F) m 0 c) (defs₀ (F := F)) Variants.none () Set.univ forgotten := fun t => by
  rw [bigSep_W0, bigSep_W0, row_eq]
  exact triple_restated (point_sound m c t) rfl .rfl fun _ => .rfl

set_option backward.isDefEq.respectTransparency.types false in
/-- The launch: the input arrays end as they were and every semaphore counter at zero. -/
theorem launch : θ_run defs (onTc (τ := τ) (main (F := F))) (s₀ m ρ)
    (fun r => RDat.FramePost (cfgs 0) (fun c => (dat m 0 c).toRForget forgotten) (V m) r ∧ r.2.sem = fun _ => 0) :=
  Pipeline.θ_run_frame_track_forget (Q' := _) cfgs (dat m) (0 : Fin 1) launch0 defs₀ Variants.none forgotten m ρ main
    (hbody := fun c => (obligation m c).loose) (hshare := fun c => (dat m 0 c).share_full fun _ => rfl)
    (howed := fun _ _ => rfl) (V := V m) (hmain := hmain m Variants.none) (hA := dat_A m) (hin := fun _ => .rfl) (hout := fun _ => .rfl)

/-- The frame: the arguments end unchanged and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(RDat.FramePost.arr_in h.1 c 1 rfl).trans ((dat_A m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (launch m ρ)

end

end Cert.Kernel.Frame

end
-- ==== Proof.KernelStep.lean ====
/-
  What one of the eight unrolled steps of a trip computes, entry by entry, over the extended reals: row `b`, column `d` of
  the new state is `h + p * (x - h)`, with `p` the clipped probability of the step's position (the printed body selects it
  out of its row by comparing a lane index and summing the row) and `x` the hidden state of that position.
-/
module

public import proofs.«01_k».proof.Proof.Gen.KernelIdeal.Skeleton
public import Idealize.ShloMosaic.Lib.Pointwise

@[expose] public section

set_option maxRecDepth 16384

noncomputable section

namespace Cert.KernelIdeal.Ema

open Idealize.ShloMosaic Cert.KernelIdeal Cert.KernelIdeal.Gen

/-- The clip both programs apply to a probability: at least the word of 1e-4, at most the word of 1 - 1e-4. -/
def clip (p : EReal) : EReal :=
  min (Ideal.ofBits .f32 0x3F7FF972#32) (max (Ideal.ofBits .f32 0x38D1B717#32) p)

/-- One step of the moving average as the kernel states it. -/
def upd (p x h : EReal) : EReal := h + p * (x - h)

/-- Among the words of the lane numbers below 256, only that of lane `t` is the word of `t`. -/
theorem lane_word (k t : Fin 256) : (BitVec.ofNat 32 k.val = BitVec.ofNat 32 t.val) ↔ k = t := by
  constructor
  · intro h
    have := congrArg BitVec.toNat h
    simp only [BitVec.toNat_ofNat] at this
    apply Fin.ext; omega
  · rintro rfl; rfl

/-- The sum of a row whose every lane but `t` has been replaced by zero is its entry at lane `t`. -/
theorem sum_pick (f : Fin 256 → EReal) (t : Fin 256) :
    (∑ k : Fin 256, Scalar.select (IntOp.cmpi .eq (BitVec.ofNat 32 k.val) (BitVec.ofNat 32 t.val)) (f k) 0) = f t := by
  rw [Finset.sum_eq_single t]
  · simp [Scalar.select, IntOp.cmpi]
  · intro k _ hk
    have : ¬ (BitVec.ofNat 32 k.val = BitVec.ofNat 32 t.val) := fun h => hk ((lane_word k t).1 h)
    have e : (BitVec.ofNat 32 k.val == BitVec.ofNat 32 t.val) = false := beq_eq_false_iff_ne.2 this
    simp [Scalar.select, IntOp.cmpi, e]
  · intro h; exact absurd (Finset.mem_univ t) h

/-- The printed step at any row offset `off` of the tile: the state plus the selected probability times the difference. -/
def stepTile (p : FVec Ideal S8x256 .f32) (w : BitVec 32) (off : Fin 3 → ℕ) (hs : S8x8x1024.Slices off S1x8x1024)
    (x : FVec Ideal S8x8x1024 .f32) (h : FVec Ideal S8x1024 .f32) : FVec Ideal S8x1024 .f32 :=
  addf h (mulf (broadcastTo S8x1024 (shapeCast S8x1 (multiReduction .add [1] S8
      (select (cmpi .eq (iota .tc S8x256 32 [1] iota_S8x256_d1_w32) (broadcast S8x256 w)) p
        (broadcast S8x256 (Scalar.ofBits .f32 0x00000000#32))) 0x00000000#32 reduces_S8x256_S8 (.inl rfl) rfl)
      shapeCasts_S8_S8x1) broadcasts_S8x1_S8x1024)
    (subf (shapeCast S8x1024 (extractStridedSlice S1x8x1024 off x hs) shapeCasts_S1x8x1024_S8x1024) h))

/-- The printed step at an entry. -/
theorem stepTile_apply (p : FVec Ideal S8x256 .f32) (t : Fin 256) (j : Fin 8) (hs : S8x8x1024.Slices ![j.val, 0, 0] S1x8x1024)
    (x : FVec Ideal S8x8x1024 .f32) (h : FVec Ideal S8x1024 .f32) (b : Fin 8) (d : Fin 1024) :
    stepTile p (BitVec.ofNat 32 t.val) ![j.val, 0, 0] hs x h (ix2 b d)
      = upd (p (ix2 b t)) (x (ix3 j b d)) (h (ix2 b d)) := by
  unfold stepTile
  pointwise []
  rw [sum_pick]
  rfl

/-- The block of probabilities after the clip, at an entry. -/
theorem clipTile_apply (v3 : Vec Ideal S8x256 .f32) (b : Fin 8) (t : Fin 256) :
    k0_pay2 v3 (ix2 b t) = clip (v3 (ix2 b t)) := by
  unfold k0_pay2
  pointwise []
  rfl

/-! ## The state of one block, position by position -/

/-- The moving average of a sequence `x` with weights `p` from the start `h`: the state after `n` positions. -/
def ema (p x : ℕ → EReal) (h : EReal) : ℕ → EReal
  | 0 => h
  | n + 1 => upd (p n) (x n) (ema p x h n)

/-- The clipped probabilities of row `b` of a block, by position (zero past the block's end). -/
def blkP (v : Vec Ideal S8x256 .f32) (b : Fin 8) (n : ℕ) : EReal := if h : n < 256 then clip (v (ix2 b ⟨n, h⟩)) else 0

/-- The hidden states of row `b`, column `d` of a block, by position (zero past the block's end). -/
def blkX (X : Vec Ideal S8x256x1024 .f32) (b : Fin 8) (d : Fin 1024) (n : ℕ) : EReal :=
  if h : n < 256 then X (ix3 b ⟨n, h⟩ d) else 0

/-- The state of a block after its first `n` positions, from the carried state `h0`. -/
def stateAt (v : Vec Ideal S8x256 .f32) (X : Vec Ideal S8x256x1024 .f32) (h0 : Vec Ideal S8x1024 .f32) (n : ℕ) :
    Vec Ideal S8x1024 .f32 := fun i => ema (blkP v (i 0)) (blkX X (i 0) (i 1)) (h0 i) n

/-- What a block's output holds: at position `t` the state after positions `0` to `t`. -/
def outBlk (v : Vec Ideal S8x256 .f32) (X : Vec Ideal S8x256x1024 .f32) (h0 : Vec Ideal S8x1024 .f32) :
    Vec Ideal S8x256x1024 .f32 := fun i => stateAt v X h0 ((i 1).val + 1) (ix2 (i 0) (i 2))

/-- A tile holds rows `8k` to `8k + 7` of the block, batch row first. -/
def IsTile (X : Vec Ideal S8x256x1024 .f32) (k : Fin 32) (T : Vec Ideal S8x8x1024 .f32) : Prop :=
  ∀ (b : Fin 8) (j : Fin 8) (d : Fin 1024), T (ix3 b j d) = X (ix3 b ⟨8 * k.val + j.val, by omega⟩ d)

/-- The printed step takes the state after `8k + j` positions to the state after one more. -/
theorem stepTile_state {v : Vec Ideal S8x256 .f32} {X : Vec Ideal S8x256x1024 .f32} {h0 : Vec Ideal S8x1024 .f32}
    {k : Fin 32} {T : Vec Ideal S8x8x1024 .f32} (hT : IsTile X k T) (j : Fin 8) (w : BitVec 32)
    (hw : w = BitVec.ofNat 32 (8 * k.val + j.val)) (hs : S8x8x1024.Slices ![j.val, 0, 0] S1x8x1024) :
    stepTile (k0_pay2 v) w ![j.val, 0, 0] hs (k0_pay7 T) (stateAt v X h0 (8 * k.val + j.val))
      = stateAt v X h0 (8 * k.val + j.val + 1) := by
  have hn : 8 * k.val + j.val < 256 := by omega
  subst hw
  funext i
  obtain ⟨b, d, rfl⟩ : ∃ (b : Fin 8) (d : Fin 1024), i = ix2 b d := ⟨i 0, i 1, eq_ix2 i⟩
  refine (stepTile_apply (k0_pay2 v) ⟨8 * k.val + j.val, hn⟩ j hs _ _ b d).trans ?_
  have e : k0_pay7 T (ix3 j b d) = X (ix3 b ⟨8 * k.val + j.val, hn⟩ d) := by
    rw [← hT b j d]; unfold k0_pay7; pointwise []
  rw [clipTile_apply, e]
  show upd _ _ (ema _ _ _ _) = upd (blkP v b _) (blkX X b d _) (ema _ _ _ _)
  unfold blkP blkX
  rw [dif_pos hn, dif_pos hn]

/-! ## The eight steps of a trip -/

/-- The position number of step `j` of trip `k`, as the body computes it. -/
theorem pos_word (k : Fin k0_t1_loop.trips) (j : Fin 8) :
    Scalar.addi (Scalar.muli (Scf.iv 0#32 1#32 k) 8#32) (BitVec.ofNat 32 j.val) = BitVec.ofNat 32 (8 * k.val + j.val) := by
  show (0#32 + BitVec.ofNat 32 k.val * 1#32) * 8#32 + BitVec.ofNat 32 j.val = _
  apply BitVec.eq_of_toNat_eq
  simp only [BitVec.toNat_add, BitVec.toNat_mul, BitVec.toNat_ofNat]
  have := k.isLt
  omega

end Cert.KernelIdeal.Ema

end
-- ==== Proof.KernelTrip.lean ====
/-
  What one trip of the kernel's loop computes: from the state after `8k` positions, its eight unrolled steps reach the
  states after `8k + 1` to `8k + 8`, the trip yields the last, and the tile it stores holds them, batch row first.
-/
module

public import proofs.«01_k».proof.Proof.KernelStep

@[expose] public section

set_option maxRecDepth 16384

noncomputable section

namespace Cert.KernelIdeal.Ema

open Idealize.ShloMosaic Cert.KernelIdeal Cert.KernelIdeal.Gen

/-- The loop makes at most 32 trips, so a trip's number is below 32. -/
def trip32 (k : Fin k0_t1_loop.trips) : Fin 32 := ⟨k.val, Nat.lt_of_lt_of_le k.isLt k0_t1_abs.2.1⟩

/-- The lane numbers of a block's row. -/
abbrev lanes : IVec S8x256 32 := iota .tc S8x256 32 [1] iota_S8x256_d1_w32

/-- The loop's induction variable at trip `k`. -/
abbrev tripWord (k : Fin k0_t1_loop.trips) : BitVec 32 := Scf.iv 0#32 1#32 k

section
variable (v : Vec Ideal S8x256 .f32) (X : Vec Ideal S8x256x1024 .f32) (h0 : Vec Ideal S8x1024 .f32)
  (k : Fin k0_t1_loop.trips) (T : Vec Ideal S8x8x1024 .f32)

/-- The state after step 1, as the trip's first part hands it to the second. -/
abbrev hand48 : FVec Ideal S8x1024 .f32 := k0_pay9 (k0_pay2 v) lanes 0#32 1#32 k (stateAt v X h0 (8 * k.val)) T
/-- The probability step 2 uses, likewise. -/
abbrev hand56 : FVec Ideal S8x1 .f32 := k0_pay10 (k0_pay2 v) lanes 0#32 1#32 k
/-- The difference step 2 uses, likewise. -/
abbrev hand59 : FVec Ideal S8x1024 .f32 := k0_pay11 (k0_pay2 v) lanes 0#32 1#32 k (stateAt v X h0 (8 * k.val)) T

variable {v X h0 k T} (hT : IsTile X (trip32 k) T)
include hT

theorem step0 : k0_pay8 (k0_pay2 v) lanes 0#32 1#32 k (stateAt v X h0 (8 * k.val)) T = stateAt v X h0 (8 * k.val + 1) :=
  stepTile_state hT 0 _ (pos_word k 0) _

theorem step1 : hand48 v X h0 k T = stateAt v X h0 (8 * k.val + 2) := by
  unfold hand48 k0_pay9
  rw [step0 hT]
  exact stepTile_state hT 1 _ (pos_word k 1) _

theorem step2 : k0_pay12 (hand48 v X h0 k T) (hand56 v k) (hand59 v X h0 k T) = stateAt v X h0 (8 * k.val + 3) := by
  unfold hand59 k0_pay11
  rw [show k0_pay9 (k0_pay2 v) lanes 0#32 1#32 k (stateAt v X h0 (8 * k.val)) T = _ from step1 hT, step1 hT]
  exact stepTile_state hT 2 _ (pos_word k 2) _

theorem step3 : k0_pay13 (k0_pay2 v) lanes (tripWord k) (k0_pay7 T) (hand48 v X h0 k T) (hand56 v k) (hand59 v X h0 k T)
    = stateAt v X h0 (8 * k.val + 4) := by
  unfold k0_pay13
  rw [step2 hT]
  exact stepTile_state hT 3 _ (pos_word k 3) _

theorem step4 : k0_pay14 (k0_pay2 v) lanes (tripWord k) (k0_pay7 T) (hand48 v X h0 k T) (hand56 v k) (hand59 v X h0 k T)
    = stateAt v X h0 (8 * k.val + 5) := by
  unfold k0_pay14
  rw [step3 hT]
  exact stepTile_state hT 4 _ (pos_word k 4) _

theorem step5 : k0_pay15 (k0_pay2 v) lanes (tripWord k) (k0_pay7 T) (hand48 v X h0 k T) (hand56 v k) (hand59 v X h0 k T)
    = stateAt v X h0 (8 * k.val + 6) := by
  unfold k0_pay15
  rw [step4 hT]
  exact stepTile_state hT 5 _ (pos_word k 5) _

theorem step6 : k0_pay3 v (k0_pay7 T) (stateAt v X h0 (8 * k.val + 6)) (Scalar.muli (tripWord k) 8#32) 6#32
    = stateAt v X h0 (8 * k.val + 7) :=
  stepTile_state hT 6 _ (pos_word k 6) _

theorem step7 : k0_pay4 v (tripWord k) (k0_pay7 T) (stateAt v X h0 (8 * k.val + 6)) (Scalar.muli (tripWord k) 8#32) 6#32
    = stateAt v X h0 (8 * k.val + 8) := by
  unfold k0_pay4
  rw [step6 hT]
  exact stepTile_state hT 7 _ (pos_word k 7) _

/-- What the trip yields: the state after its eight positions. -/
theorem trip_yield : k0_pay4 v (tripWord k) (k0_pay7 T)
      (k0_pay15 (k0_pay2 v) lanes (tripWord k) (k0_pay7 T) (hand48 v X h0 k T) (hand56 v k) (hand59 v X h0 k T))
      (Scalar.muli (tripWord k) 8#32) 6#32
    = stateAt v X h0 (8 * k.val + 8) := by
  rw [step5 hT, step7 hT]

/-- The tile the trip stores: at its row `j` the state after that position. -/
theorem trip_tile (b : Fin 8) (j : Fin 8) (d : Fin 1024) :
    k0_pay5 v (tripWord k) (k0_pay7 T)
      (k0_pay8 (k0_pay2 v) lanes 0#32 1#32 k (stateAt v X h0 (8 * k.val)) T)
      (hand48 v X h0 k T)
      (k0_pay12 (hand48 v X h0 k T) (hand56 v k) (hand59 v X h0 k T))
      (k0_pay13 (k0_pay2 v) lanes (tripWord k) (k0_pay7 T) (hand48 v X h0 k T) (hand56 v k) (hand59 v X h0 k T))
      (k0_pay14 (k0_pay2 v) lanes (tripWord k) (k0_pay7 T) (hand48 v X h0 k T) (hand56 v k) (hand59 v X h0 k T))
      (k0_pay15 (k0_pay2 v) lanes (tripWord k) (k0_pay7 T) (hand48 v X h0 k T) (hand56 v k) (hand59 v X h0 k T))
      (Scalar.muli (tripWord k) 8#32) 6#32 (ix3 b j d)
    = stateAt v X h0 (8 * k.val + j.val + 1) (ix2 b d) := by
  rw [step5 hT, step4 hT, step3 hT, step2 hT, step1 hT, step0 hT]
  unfold k0_pay5
  rw [step6 hT, step7 hT]
  generalize hg : stateAt v X h0 = S
  pointwise []
  fin_vals j with hk
  all_goals simp only [hk, Nat.reduceSub, Nat.reduceLT, ↓reduceDIte]
  all_goals pointwise []

end

end Cert.KernelIdeal.Ema
-- ==== Proof.KernelLoop.lean ====
/-
  The kernel's loop over a block, by an invariant: before trip `k` the carried value is the state after `8k` positions,
  the input block is as it was, and the output block has had the tiles of the trips before `k` written into it, the tile
  of trip `k` holding the states after `8k + 1` to `8k + 8` positions.
-/
module

public import proofs.«01_k».proof.Proof.KernelTrip
public import proofs.«01_k».proof.Proof.Gen.KernelIdeal.Loops
public import Idealize.ShloMosaic.Lib.VecWindow
public import Idealize.ShloMosaic.Lib.WritesUnit

@[expose] public section

set_option maxRecDepth 16384

noncomputable section

namespace Cert.KernelIdeal.Ema

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- The loop makes 32 trips. -/
theorem trips_eq : k0_t1_loop.trips = 32 := by decide +kernel

/-- The rectangle of a block that trip `k` reads and writes: all batch rows, positions `8k` to `8k + 7`. -/
abbrev tileRect (k : Fin k0_t1_loop.trips) : Rect S8x256x1024 := Rect.unit (k0_off1 k) S8x8x1024.size (k0_off1_inb k)

/-- What trip `k` stores: at row `j` the state after position `8k + j`. -/
def tileOut (v : Vec Ideal S8x256 .f32) (X : Vec Ideal S8x256x1024 .f32) (h0 : Vec Ideal S8x1024 .f32) (k : ℕ) :
    Vec Ideal S8x8x1024 .f32 := fun i => stateAt v X h0 (8 * k + (i 1).val + 1) (ix2 (i 0) (i 2))

/-- The tiles the trips before `k` have written, the last first. -/
def tiles (v : Vec Ideal S8x256 .f32) (X : Vec Ideal S8x256x1024 .f32) (h0 : Vec Ideal S8x1024 .f32) :
    ℕ → List (View.Piece (Elt Ideal) S8x256x1024 .f32)
  | 0 => []
  | k + 1 => if h : k < k0_t1_loop.trips then ⟨tileRect ⟨k, h⟩, tileOut v X h0 k⟩ :: tiles v X h0 k else tiles v X h0 k

theorem tiles_succ (v : Vec Ideal S8x256 .f32) (X : Vec Ideal S8x256x1024 .f32) (h0 : Vec Ideal S8x1024 .f32)
    (k : Fin k0_t1_loop.trips) : tiles v X h0 (k.val + 1) = ⟨tileRect k, tileOut v X h0 k.val⟩ :: tiles v X h0 k.val :=
  dif_pos k.isLt

/-- Once the tiles before `k` are written, every position below `8k` of the block holds the state after it. -/
theorem read_tiles (v : Vec Ideal S8x256 .f32) (X : Vec Ideal S8x256x1024 .f32) (h0 : Vec Ideal S8x1024 .f32)
    (M : View sig .tc .vmem S8x256x1024 .f32) (f : M.ty.Contents (Elt Ideal)) (b : Fin 8) (t : Fin 256) (d : Fin 1024) :
    ∀ k : ℕ, k ≤ 32 → t.val < 8 * k → M.read (Elt Ideal) (M.writes (Elt Ideal) f (tiles v X h0 k)) (ix3 b t d) = outBlk v X h0 (ix3 b t d)
  | 0, _, h => absurd h (by omega)
  | k + 1, hk, h => by
    have hkt : k < k0_t1_loop.trips := by rw [trips_eq]; omega
    rw [tiles_succ v X h0 ⟨k, hkt⟩]
    by_cases hin : t.val < 8 * k
    · refine (View.read_writes_cons_unit_of_not_mem (size := S8x8x1024.size) M f (k0_off1_inb ⟨k, hkt⟩) (tileOut v X h0 k)
        (tiles v X h0 k) (ix3 b t d) (k0_off1_eq ⟨k, hkt⟩) 1 (Or.inl hin)).trans ?_
      exact read_tiles v X h0 M f b t d k (by omega) hin
    · refine (View.read_writes_cons_unit_of_mem (size := S8x8x1024.size) M f (k0_off1_inb ⟨k, hkt⟩) (tileOut v X h0 k)
        (tiles v X h0 k) (ix3 b t d) (ix3 b (⟨t.val - 8 * k, by omega⟩ : Fin 8) d) (k0_off1_eq ⟨k, hkt⟩)
        (fun a => by
          match a with
          | ⟨0, _⟩ => exact (Nat.zero_add _).symm
          | ⟨1, _⟩ => show t.val = 8 * k + (t.val - 8 * k); omega
          | ⟨2, _⟩ => exact (Nat.zero_add _).symm)).trans ?_
      show stateAt v X h0 (8 * k + (t.val - 8 * k) + 1) (ix2 b d) = stateAt v X h0 (t.val + 1) (ix2 b d)
      rw [show 8 * k + (t.val - 8 * k) + 1 = t.val + 1 by omega]

/-- Once all 32 tiles are written the block holds the state after each position. -/
theorem read_all_tiles (v : Vec Ideal S8x256 .f32) (X : Vec Ideal S8x256x1024 .f32) (h0 : Vec Ideal S8x1024 .f32)
    (M : View sig .tc .vmem S8x256x1024 .f32) (f : M.ty.Contents (Elt Ideal)) :
    M.read (Elt Ideal) (M.writes (Elt Ideal) f (tiles v X h0 k0_t1_loop.trips)) = outBlk v X h0 := by
  funext i
  rw [eq_ix3 i, trips_eq]
  exact read_tiles v X h0 M f (i 0) (i 1) (i 2) 32 le_rfl (by have : (i 1).val < 256 := (i 1).isLt; omega)

/-- What trip `k` loads is the tile of the block it is at. -/
theorem isTile_load (M : View sig .tc .vmem S8x256x1024 .f32) (f : M.ty.Contents (Elt Ideal)) (k : Fin k0_t1_loop.trips) :
    IsTile (M.read (Elt Ideal) f) (trip32 k) (M.readAt (Elt Ideal) (tileRect k).toLoadRect f) := by
  intro b j d
  rw [View.readAt_apply]
  refine congrArg (M.read (Elt Ideal) f) (funext fun a => Fin.ext ?_)
  rw [LoadRect.idx_apply]
  show k0_off1 k a + 1 * (ix3 b j d a).val = _
  rw [k0_off1_eq]
  match a with
  | ⟨0, _⟩ => show 0 + 1 * b.val = b.val; omega
  | ⟨1, _⟩ => show 8 * k.val + 1 * j.val = 8 * k.val + j.val; omega
  | ⟨2, _⟩ => show 0 + 1 * d.val = d.val; omega

/-- The tile the trip stores, as one vector. -/
theorem trip_store {v : Vec Ideal S8x256 .f32} {X : Vec Ideal S8x256x1024 .f32} {h0 : Vec Ideal S8x1024 .f32}
    {k : Fin k0_t1_loop.trips} {T : Vec Ideal S8x8x1024 .f32} (hT : IsTile X (trip32 k) T) :
    k0_pay5 v (tripWord k) (k0_pay7 T)
      (k0_pay8 (k0_pay2 v) lanes 0#32 1#32 k (stateAt v X h0 (8 * k.val)) T)
      (hand48 v X h0 k T)
      (k0_pay12 (hand48 v X h0 k T) (hand56 v k) (hand59 v X h0 k T))
      (k0_pay13 (k0_pay2 v) lanes (tripWord k) (k0_pay7 T) (hand48 v X h0 k T) (hand56 v k) (hand59 v X h0 k T))
      (k0_pay14 (k0_pay2 v) lanes (tripWord k) (k0_pay7 T) (hand48 v X h0 k T) (hand56 v k) (hand59 v X h0 k T))
      (k0_pay15 (k0_pay2 v) lanes (tripWord k) (k0_pay7 T) (hand48 v X h0 k T) (hand56 v k) (hand59 v X h0 k T))
      (Scalar.muli (tripWord k) 8#32) 6#32
    = tileOut v X h0 k.val := by
  funext i
  rw [eq_ix3 i]
  exact trip_tile hT (i 0) (i 1) (i 2)

section
variable (𝒱 : Variants) (c : Dev nD) (bd : Option 𝒱.V) (i : grid0.Coords)
  (arg1 : Memref sig .tc .vmem S8x256 .f32) (harg1 : arg1.IsWhole) (arg2 : Memref sig .tc .vmem S8x256x1024 .f32) (harg2 : arg2.IsWhole)
  (arg3 : Memref sig .tc .vmem S8x256x1024 .f32) (harg3 : arg3.IsWhole) (arg4 : Memref sig .tc .vmem S8x1024 .f32) (harg4 : arg4.IsWhole)
  (v : Vec Ideal S8x256 .f32) (Xf : BufTy.Contents (Elt Ideal) arg2.view.ty) (G : BufTy.Contents (Elt Ideal) arg3.view.ty)
  (init : Vec Ideal S8x1024 .f32)

/-- What a trip holds: the block it reads at its contents, and the block it writes at `f`. -/
abbrev holds (f : BufTy.Contents (Elt Ideal) arg3.view.ty) : sProp (MT nD τ sig Unit (Elt Ideal) ℕ (UR sig nD τ) ℕ) :=
  iprop((arg2.view.loc (c : Thread nD τ) ↦[arg2.view.set]{fullShare} Xf) ∗ (arg3.view.loc (c : Thread nD τ) ↦[arg3.view.set]{fullShare} f))

/-- One trip at the state after `8k` positions: it yields the state after `8k + 8` and writes its tile. -/
theorem trip_run (E : Set ℕ) (k : Fin k0_t1_loop.trips) (f : BufTy.Contents (Elt Ideal) arg3.view.ty) :
    holds c arg2 arg3 Xf f
      ⊢ wp frame (wpE (defs₀ (F := Ideal)) 𝒱 (c : Thread nD τ) bd) E
          (k0_t1_body (F := Ideal) i arg1 harg1 arg2 harg2 arg3 harg3 arg4 harg4 v lanes k
            (stateAt v (arg2.view.read (Elt Ideal) Xf) init (8 * k.val)))
          (fun yld => iprop(⌜yld = stateAt v (arg2.view.read (Elt Ideal) Xf) init (8 * k.val + 8)⌝
            ∗ holds c arg2 arg3 Xf (arg3.view.writes (Elt Ideal) f
                [⟨tileRect k, tileOut v (arg2.view.read (Elt Ideal) Xf) init k.val⟩]))) := by
  have hk : k.val < 32 := Nat.lt_of_lt_of_le k.isLt k0_t1_abs.2.1
  rw [← trip_store (h0 := init) (v := v) (isTile_load arg2.view Xf k), ← trip_yield (h0 := init) (v := v) (isTile_load arg2.view Xf k)]
  unfold k0_t1_body
  iintro ⟨HR_arg2, HW_arg3⟩
  sl_exec
  sl_step
  sl_close

set_option warn.classDefReducibility false in
/-- The loop by its invariant. -/
@[sl_loop] def loopState (E : Set ℕ) :
    LoopInvTy_k0_t1 (F := Ideal) Unit ℕ (UR sig nD τ) ℕ 𝒱 c bd E i arg1 harg1 arg2 harg2 arg3 harg3 arg4 harg4 v lanes init where
  inv k acc := iprop((arg2.view.loc (c : Thread nD τ) ↦[arg2.view.set]{fullShare} Xf)
    ∗ (∃ f, (arg3.view.loc (c : Thread nD τ) ↦[arg3.view.set]{fullShare} f)
        ∗ ⌜f = arg3.view.writes (Elt Ideal) G (tiles v (arg2.view.read (Elt Ideal) Xf) init k)⌝)
    ∗ ⌜acc = stateAt v (arg2.view.read (Elt Ideal) Xf) init (8 * k)⌝)
  step k acc := by
    iintro ⟨HR_arg2, ⟨%f_arg3, HW_arg3, %h_arg3⟩, %h_acc⟩
    subst h_acc
    iapply (wp_wand_r frame (wpE (defs₀ (F := Ideal)) 𝒱 (c : Thread nD τ) bd) E)
    isplitl [HR_arg2 HW_arg3]
    · iapply (trip_run 𝒱 c bd i arg1 harg1 arg2 harg2 arg3 harg3 arg4 harg4 v Xf init E k f_arg3)
      isplitl [HR_arg2]; · iexact HR_arg2
      iexact HW_arg3
    · iintro %yld ⟨%h_res, HR_arg2, HW_arg3⟩
      isplitl [HR_arg2]; · iexact HR_arg2
      rw [tiles_succ]
      isplitl [HW_arg3]
      · iexists _; isplitl [HW_arg3]; · iexact HW_arg3
        ipureintro; rw [h_arg3, ← View.writes_append]; rfl
      ipureintro; rw [h_res]; rfl

end

end Cert.KernelIdeal.Ema
-- ==== Proof.KernelBody.lean ====
/-
  The kernel at one grid point: from the state carried in its scratch — or, at the first point, from zeros — it leaves in
  the output block the state after each of the block's 256 positions and in the scratch the state after all of them; the
  two input blocks are as they were.
-/
module

public import proofs.«01_k».proof.Proof.KernelLoop
public import proofs.«01_k».proof.Proof.Gen.KernelIdeal.Frame

@[expose] public section

set_option maxRecDepth 16384

noncomputable section

namespace Cert.KernelIdeal.Ema

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- The condition under which the kernel clears its scratch: the grid coordinate is zero. -/
abbrev atStart (i : grid0.Coords) : Prop :=
  (Scalar.cmpi .ne (Scalar.extui (Scalar.cmpi .eq (BitVec.ofNat 32 (i 0).val) 0#32)) 0#32) = 1#1

/-- It holds at the first point only. -/
theorem atStart_iff : ∀ t : Fin cfg0.N, atStart (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [atStart, e0]
    word_cmp
   : ∀ t : Fin grid0.N, atStart (grid0.coords t) ↔ t.val = 0)

/-- The state the first point starts from. -/
def zeros : Vec Ideal S8x1024 .f32 := fun _ => 0

theorem cleared : k0_pay1 (F := Ideal) = zeros := by
  funext i
  rw [eq_ix2 i]
  unfold k0_pay1 zeros
  pointwise []

theorem stored (s : Vec Ideal S8x1024 .f32) : k0_pay6 s = s := by
  funext i
  rw [eq_ix2 i]
  unfold k0_pay6
  pointwise []

section
variable (c : Dev nD) (i : grid0.Coords)
  (arg1 : Memref sig .tc .vmem S8x256 .f32) (harg1 : arg1.IsWhole) (arg2 : Memref sig .tc .vmem S8x256x1024 .f32) (harg2 : arg2.IsWhole)
  (arg3 : Memref sig .tc .vmem S8x256x1024 .f32) (harg3 : arg3.IsWhole) (arg4 : Memref sig .tc .vmem S8x1024 .f32) (harg4 : arg4.IsWhole)
  (x0 : Vec Ideal S8x256 .f32) (x1 : Vec Ideal S8x256x1024 .f32) (h0 : Vec Ideal S8x1024 .f32)

/-- A point that is not the first, from the carried state `h0`. -/
theorem body_next (hc0 : ¬atStart i) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare h0
        ∗ (iprop(owns (c : Thread nD τ) arg1 fullShare x0 ∗ owns (c : Thread nD τ) arg2 fullShare x1
            ∗ owns (c : Thread nD τ) arg3 fullShare (outBlk x0 x1 h0) ∗ owns (c : Thread nD τ) arg4 fullShare (stateAt x0 x1 h0 256)) -∗ K ⟨⟩))
      ⊢ wp frame (wpE (defs₀ (F := Ideal)) Variants.none c none) E
          (cc0__ema_chunk_kernel (F := Ideal) i arg1 harg1 arg2 harg2 arg3 harg3 arg4 harg4) K := by
  simp only [cc0__ema_chunk_kernel_eq_skeleton]; unfold cc0__ema_chunk_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [read_all_tiles, harg2.read_unread, View.readAt_full, harg1.read_unread, View.readAt_full, harg4.read_unread]
  iexists _; isplitr; swap; · iexact HS0
  ipureintro
  rw [View.read_writes_full, stored, harg2.read_unread, View.readAt_full, harg1.read_unread, View.readAt_full, harg4.read_unread]
  show stateAt x0 x1 h0 (8 * k0_t1_loop.trips) = _
  rw [trips_eq]

/-- The first point: from zeros, whatever the scratch held. -/
theorem body_first (hc0 : atStart i) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outBlk x0 x1 zeros) ∗ owns (c : Thread nD τ) arg4 fullShare (stateAt x0 x1 zeros 256)) -∗ K ⟨⟩))
      ⊢ wp frame (wpE (defs₀ (F := Ideal)) Variants.none c none) E
          (cc0__ema_chunk_kernel (F := Ideal) i arg1 harg1 arg2 harg2 arg3 harg3 arg4 harg4) K := by
  simp only [cc0__ema_chunk_kernel_eq_skeleton]; unfold cc0__ema_chunk_kernel_skel
  unfold owns
  iintro ⟨⟨%f0, %hf0, H0⟩, ⟨%f1, %hf1, H1⟩, ⟨%d2, %f2, -, H2⟩, ⟨%ds0, %fs0, -, HS0⟩, Hk⟩
  obtain rfl := harg1.eq_unread hf0; obtain rfl := harg2.eq_unread hf1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [read_all_tiles, harg2.read_unread, View.readAt_full, harg1.read_unread]
    unfold body_first.sl.v10 body_first.sl.HS0_1
    rw [View.readCov_full, cleared]
  iexists _; isplitr; swap; · iexact HS0
  ipureintro
  rw [View.read_writes_full, stored, harg2.read_unread, View.readAt_full, harg1.read_unread]
  unfold body_first.sl.v10 body_first.sl.HS0_1
  rw [View.readCov_full, cleared]
  show stateAt x0 x1 zeros (8 * k0_t1_loop.trips) = _
  rw [trips_eq]

end

end Cert.KernelIdeal.Ema
-- ==== Proof.KernelRun.lean ====
/-
  The kernel's launch, over the extended reals: the state carried from grid point to grid point, what each point leaves in
  its output block, and the run — every weakly fair execution ends with the result array made of those blocks, the
  arguments unchanged and every semaphore counter at zero.
-/
module

public import proofs.«01_k».proof.Proof.KernelBody
public import Idealize.ShloMosaic.Lib.Claim

@[expose] public section

set_option maxRecDepth 16384

noncomputable section

namespace Cert.KernelIdeal.Ema

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Point `t`'s block of the probabilities. -/
abbrev probBlk (c : Dev nD) (t : Fin cfg0.N) : Vec Ideal S8x256 .f32 := iblk m c 0 t
/-- Point `t`'s block of the hidden states. -/
abbrev hidBlk (c : Dev nD) (t : Fin cfg0.N) : Vec Ideal S8x256x1024 .f32 := iblk m c 1 t

/-- The state the scratch carries into point `n`: zeros at the first, then what the point before left. -/
def carried (c : Dev nD) : ℕ → Vec Ideal S8x1024 .f32
  | 0 => zeros
  | n + 1 => if h : n < cfg0.N then stateAt (probBlk m c ⟨n, h⟩) (hidBlk m c ⟨n, h⟩) (carried c n) 256 else carried c n

theorem carried_succ (c : Dev nD) (t : Fin cfg0.N) :
    carried m c (t.val + 1) = stateAt (probBlk m c t) (hidBlk m c t) (carried m c t.val) 256 := dif_pos t.isLt

/-- The current staging buffers at a point, and the scratch. -/
abbrev mem0 (t : Fin cfg0.N) : Memref sig .tc .vmem S8x256 .f32 := win0_0.stage (cfg0.slots t 0)
abbrev mem1 (t : Fin cfg0.N) : Memref sig .tc .vmem S8x256x1024 .f32 := win0_1.stage (cfg0.slots t 1)
abbrev mem2 (t : Fin cfg0.N) : Memref sig .tc .vmem S8x256x1024 .f32 := win0_2.stage (cfg0.slots t 2)
abbrev scr : Memref sig .tc .vmem S8x1024 .f32 := Memref.whole cc0_scratch0

/-- The class invariant, the scratch as a memref at some contents. -/
theorem start_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The invariant before point `n`: at first the scratch at anything, afterwards at the carried state. -/
def inv (c : Dev nD) : (n : ℕ) → n ≤ cfg0.N → sProp 𝕄
  | 0, _ => Pipeline.ΦA spec0 c
  | n + 1, _ => iprop(owns (c : Thread nD τ) scr fullShare (carried m c (n + 1)) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(owns (c : Thread nD τ) scr fullShare (carried m c n) ∗ (∃ r, prngReg c r)) := by
  cases n with
  | zero => exact absurd rfl hz
  | succ n => rfl

/-- The proof data: the arrays as the region finds them; each input block in place, the output block at the states. -/
def dat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (probBlk m c t) (hidBlk m c t) (carried m c t.val)
  Φ t := inv m c t.val (Nat.le_of_lt_succ t.isLt)
  q _ := fullShare
  owed _ := 0

theorem dat_A (c : Dev nD) (w : Fin cfg0.W) : (dat m 0 c).A w = V m c (Pipeline.arrRef spec0 w) := by dsimp only [dat]

theorem dat_Phi (c : Dev nD) (t : Fin cfg0.N) : (dat m 0 c).Φ t.castSucc = inv m c t.val (Nat.le_of_lt t.isLt) := by
  dsimp only [dat]; exact Pipeline.Dat.Φ_castSucc (inv m c) t

theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) :
    (dat m 0 c).after 2 t = outBlk (probBlk m c t) (hidBlk m c t) (carried m c t.val) := by dsimp only [dat]

theorem before_0 (c : Dev nD) (t : Fin cfg0.N) (d) : (dat m 0 c).before 0 t d = iblk m c 0 t :=
  before0_0_of m (dat m 0 c) (dat_A m c 0) (after_0 m c) t d
theorem before_1 (c : Dev nD) (t : Fin cfg0.N) (d) : (dat m 0 c).before 1 t d = iblk m c 1 t :=
  before0_1_of m (dat m 0 c) (dat_A m c 1) (after_1 m c) t d

/-- What the body is called with at point `t`, -/
def pre (c : Dev nD) (t : Fin cfg0.N) : sProp 𝕄 :=
  iprop((dat m 0 c).Φ t.castSucc ∗ (dat m 0 c).owesAt () t.castSucc
    ∗ (∃ d, owns (c : Thread nD τ) (mem0 t) fullShare ((dat m 0 c).before 0 t d))
    ∗ (∃ d, owns (c : Thread nD τ) (mem1 t) fullShare ((dat m 0 c).before 1 t d))
    ∗ (∃ d, owns (c : Thread nD τ) (mem2 t) fullShare ((dat m 0 c).before 2 t d)))

/-- and what it returns. -/
def post (c : Dev nD) (t : Fin cfg0.N) : sProp 𝕄 :=
  iprop((dat m 0 c).Φ t.succ ∗ (dat m 0 c).owesAt () t.succ
    ∗ owns (c : Thread nD τ) (mem0 t) fullShare ((dat m 0 c).after 0 t)
    ∗ owns (c : Thread nD τ) (mem1 t) fullShare ((dat m 0 c).after 1 t)
    ∗ owns (c : Thread nD τ) (mem2 t) fullShare ((dat m 0 c).after 2 t))

set_option maxHeartbeats 3200000 in
/-- The body at any point takes the one to the other. -/
theorem point_sound (c : Dev nD) (t : Fin cfg0.N) :
    pre m c t ⊢ wp frame (wpE (defs₀ (F := Ideal)) Variants.none c none) Set.univ (bodyAt0 t) (fun _ => post m c t) := by
  unfold pre post bodyAt0
  simp only [before_0, before_1]
  rw [show (dat m 0 c).owesAt () t.succ = (dat m 0 c).owesAt () t.castSucc from rfl, after_0, after_1, after_2,
    show (dat m 0 c).Φ t.succ = inv m c (t.val + 1) t.isLt from rfl, inv_pos m c (t.val + 1) t.isLt (Nat.succ_ne_zero _),
    carried_succ m c t, dat_Phi m c t]
  by_cases hz : t.val = 0
  · rw [inv_zero m c _ _ hz, start_eq, show carried m c t.val = zeros from by rw [hz]; rfl]
    iintro ⟨⟨HS0, Hg⟩, Ho, ⟨%d0, H0⟩, ⟨%d1, H1⟩, ⟨%d2, H2⟩⟩
    iapply (body_first c (grid0.coords t) _ _ _ _ _ _ _ _ (probBlk m c t) (hidBlk m c t) ((atStart_iff t).mpr hz) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2
  · rw [inv_pos m c _ _ hz]
    iintro ⟨⟨HS0, Hg⟩, Ho, ⟨%d0, H0⟩, ⟨%d1, H1⟩, ⟨%d2, H2⟩⟩
    iapply (body_next c (grid0.coords t) _ _ _ _ _ _ _ _ (probBlk m c t) (hidBlk m c t) (carried m c t.val) (fun h => hz ((atStart_iff t).mp h)) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2

theorem row_eq (t : Fin cfg0.N) : defs₀ (F := Ideal) .tc cfg0.body (cfg0.bodyArgs t (cfg0.slots t)) = bodyAt0 t := by
  unfold defs₀; rw [Defs.onTc_tc]

/-- The library's obligation on the body, at every point. -/
theorem obligation (c : Dev nD) : BodyObligation (dat m 0 c) (defs₀ (F := Ideal)) Variants.none () Set.univ := fun t => by
  rw [bigSep_W0, bigSep_W0, row_eq]
  exact triple_restated (point_sound m c t) rfl .rfl fun _ => .rfl

theorem enter (c : Dev nD) : Pipeline.ΦA spec0 c ⊢ (dat m 0 c).Φ 0 := by
  rw [show (dat m 0 c).Φ 0 = inv m c 0 (Nat.zero_le _) from rfl, inv_zero m c 0 _ rfl]

theorem leave (c : Dev nD) : (dat m 0 c).Φ (Fin.last cfg0.N) ⊢ Pipeline.ΦA spec0 c := by
  rw [show (dat m 0 c).Φ (Fin.last cfg0.N) = inv m c cfg0.N le_rfl from rfl,
    inv_pos m c _ _ (by have : cfg0.N = 8 := N_0; omega), start_eq]
  iintro ⟨HS0, Hg⟩
  isplitl [HS0]
  · iexists _; iexact HS0
  iexact Hg

set_option backward.isDefEq.respectTransparency.types false in
/-- The launch: the arrays end at what the proof data say and every semaphore counter at zero. -/
theorem launch : θ_run defs (onTc (τ := τ) (main (F := Ideal))) (s₀ m ρ)
    (fun r => Pipeline.FramePost cfgs (dat m) 0 (V m) r ∧ r.2.sem = fun _ => 0) :=
  Pipeline.θ_run_frame_track (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m) (hin := enter m) (hout := leave m)

/-- The frame: the arguments end unchanged and every semaphore counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dat m) (dat_A m) ((θ_run defs _ _).mono (fun _ h => h.1) (launch m ρ)))
    ((θ_run defs _ _).mono (fun _ h => h.2) (launch m ρ))

/-- The run with its result: the result array at what the proof data say of the output window, the arguments unchanged. -/
theorem run_result : θ_run defs (onTc (τ := τ) (main (F := Ideal))) ⟨m, fun _ => 0, ρ⟩ (fun r => ∀ c : Dev nD,
      r.2.mem ((c.tc : Thread nD τ).loc main_v0) = (dat m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 2, h.2.1 c⟩) (θ_run_and (launch m ρ) (quiescent m ρ))

end Cert.KernelIdeal.Ema
-- ==== Proof.KernelValue.lean ====
/-
  What the kernel's result array holds, over the extended reals, as one function of the arguments: at batch row `b`,
  position `t`, column `d` the moving average, started from zero, over positions `0` to `t` of the clipped second
  probabilities of row `b` and the hidden states of row `b`, column `d`.
-/
module

public import proofs.«01_k».proof.Proof.KernelRun
public import Idealize.ShloMosaic.Lib.Pipeline.Value
public import Idealize.ShloMosaic.Lib.StableHlo.RunClose

@[expose] public section

set_option maxRecDepth 16384

noncomputable section

namespace Cert.KernelIdeal.Ema

open Idealize.ShloMosaic Idealize.ShloMosaic.TcCoe Idealize.SL.Sem Idealize.ShloMosaic.StableHlo
open Cert.KernelIdeal Cert.KernelIdeal.Gen

/-! ## The moving average over a whole row, and block by block -/

/-- The clipped second probabilities of batch row `b`, by position (zero past the end). -/
def rowP (P : Vec Ideal S8x2048x2 .f32) (b : Fin 8) (n : ℕ) : EReal := if h : n < 2048 then clip (P (ix3 b ⟨n, h⟩ (1 : Fin 2))) else 0

/-- The hidden states of batch row `b`, column `d`, by position (zero past the end). -/
def rowX (X : Vec Ideal S8x2048x1024 .f32) (b : Fin 8) (d : Fin 1024) (n : ℕ) : EReal :=
  if h : n < 2048 then X (ix3 b ⟨n, h⟩ d) else 0

/-- The moving averages of all rows: at position `t` the state after positions `0` to `t`, from zero. -/
def averages (X : Vec Ideal S8x2048x1024 .f32) (P : Vec Ideal S8x2048x2 .f32) : Vec Ideal S8x2048x1024 .f32 :=
  fun i => ema (rowP P (i 0)) (rowX X (i 0) (i 2)) 0 ((i 1).val + 1)

/-- The state after `n` positions depends on those positions only. -/
theorem ema_congr {p p' x x' : ℕ → EReal} (h : EReal) : ∀ n : ℕ, (∀ k < n, p k = p' k ∧ x k = x' k) → ema p x h n = ema p' x' h n
  | 0, _ => rfl
  | n + 1, hk => by
    show upd (p n) (x n) (ema p x h n) = upd (p' n) (x' n) (ema p' x' h n)
    rw [ema_congr h n fun k hlt => hk k (by omega), (hk n (by omega)).1, (hk n (by omega)).2]

/-- The state after `a + n` positions is the state after `n` more from the state after `a`. -/
theorem ema_add (p x : ℕ → EReal) (h : EReal) (a : ℕ) : ∀ n : ℕ,
    ema (fun k => p (a + k)) (fun k => x (a + k)) (ema p x h a) n = ema p x h (a + n)
  | 0 => rfl
  | n + 1 => by
    show upd (p (a + n)) (x (a + n)) _ = upd (p (a + n)) (x (a + n)) (ema p x h (a + n))
    rw [ema_add p x h a n]

/-! ## The blocks of the arguments -/

variable (m : (ℓ : Loc nD τ sig) → Buf (Elt Ideal) ℓ) (ρ : Dev nD → PrngReg)

/-- The hidden states and the probabilities as launched. -/
abbrev hid (c : Dev nD) : Vec Ideal S8x2048x1024 .f32 := m ((c.tc : Thread nD τ).loc main_arg0)
abbrev prob (c : Dev nD) : Vec Ideal S8x2048x2 .f32 := m ((c.tc : Thread nD τ).loc main_arg2)

/-- What the host lines before the kernel leave in its first operand: the second probability of each position. -/
theorem V_probs (c : Dev nD) : (V m c main_call0_v1 : Vec Ideal S8x2048 .f32)
    = shapeCast S8x2048 (extractStridedSlice S8x2048x1 ![0, 0, 1] (prob m c) slices_S8x2048x2_S8x2048x1_0_0_1) shapeCasts_S8x2048x1_S8x2048 := by
  show StableHlo.after hostOps0 _ _ = _
  unfold hostOps0
  after_results_simp_entrywise
  simp only [StableHlo.TRef.toBuf, StableHlo.TRef.ofBuf, cast_eq, id_eq]
  rfl

theorem V_probs_apply (c : Dev nD) (b : Fin 8) (n : Fin 2048) :
    (V m c main_call0_v1 : Vec Ideal S8x2048 .f32) (ix2 b n) = prob m c (ix3 b n (1 : Fin 2)) := by
  rw [V_probs]
  pointwise []

/-- The index of a window's block at point `t` on its middle axis is `t`. -/
theorem index0 : ∀ t : Fin cfg0.N, win0_0.index t (0 : Fin 2) = 0 ∧ win0_0.index t (1 : Fin 2) = t.val :=
  (by decide +kernel : ∀ t : Fin grid0.N, _)
theorem index1 : ∀ t : Fin cfg0.N, win0_1.index t (0 : Fin 3) = 0 ∧ win0_1.index t (1 : Fin 3) = t.val ∧ win0_1.index t (2 : Fin 3) = 0 :=
  (by decide +kernel : ∀ t : Fin grid0.N, _)
theorem index2 : ∀ t : Fin cfg0.N, win0_2.index t (0 : Fin 3) = 0 ∧ win0_2.index t (1 : Fin 3) = t.val ∧ win0_2.index t (2 : Fin 3) = 0 :=
  (by decide +kernel : ∀ t : Fin grid0.N, _)

theorem lt8 (t : Fin cfg0.N) : t.val < 8 := Nat.lt_of_lt_of_eq t.isLt N_0

/-- Point `t`'s block of an array reads it at positions `256 t` and after. -/
theorem emb0 (t : Fin cfg0.N) (b : Fin 8) (n : Fin 256) :
    ((cfg0.win 0).blk t).view.emb (ix2 b n) = (ix2 b (⟨256 * t.val + n.val, by have := lt8 t; omega⟩ : Fin 2048) : S8x2048.Idx) := by
  obtain ⟨e0, e1⟩ := index0 t
  funext a; apply Fin.ext
  match a with
  | ⟨0, _⟩ => show win0_0.index t (0 : Fin 2) * 8 + 1 * b.val = b.val; omega
  | ⟨1, _⟩ => show win0_0.index t (1 : Fin 2) * 256 + 1 * n.val = 256 * t.val + n.val; omega
theorem emb1 (t : Fin cfg0.N) (b : Fin 8) (n : Fin 256) (d : Fin 1024) :
    ((cfg0.win 1).blk t).view.emb (ix3 b n d) = (ix3 b (⟨256 * t.val + n.val, by have := lt8 t; omega⟩ : Fin 2048) d : S8x2048x1024.Idx) := by
  obtain ⟨e0, e1, e2⟩ := index1 t
  funext a; apply Fin.ext
  match a with
  | ⟨0, _⟩ => show win0_1.index t (0 : Fin 3) * 8 + 1 * b.val = b.val; omega
  | ⟨1, _⟩ => show win0_1.index t (1 : Fin 3) * 256 + 1 * n.val = 256 * t.val + n.val; omega
  | ⟨2, _⟩ => show win0_1.index t (2 : Fin 3) * 1024 + 1 * d.val = d.val; omega
theorem emb2 (t : Fin cfg0.N) (b : Fin 8) (n : Fin 256) (d : Fin 1024) :
    ((cfg0.win 2).blk t).view.emb (ix3 b n d) = (ix3 b (⟨256 * t.val + n.val, by have := lt8 t; omega⟩ : Fin 2048) d : S8x2048x1024.Idx) := by
  obtain ⟨e0, e1, e2⟩ := index2 t
  funext a; apply Fin.ext
  match a with
  | ⟨0, _⟩ => show win0_2.index t (0 : Fin 3) * 8 + 1 * b.val = b.val; omega
  | ⟨1, _⟩ => show win0_2.index t (1 : Fin 3) * 256 + 1 * n.val = 256 * t.val + n.val; omega
  | ⟨2, _⟩ => show win0_2.index t (2 : Fin 3) * 1024 + 1 * d.val = d.val; omega

/-- So the probabilities and hidden states of a block are those of the row at `256 t` and after. -/
theorem blkP_row (c : Dev nD) (t : Fin cfg0.N) (b : Fin 8) (n : ℕ) (hn : n < 256) :
    blkP (probBlk m c t) b n = rowP (prob m c) b (256 * t.val + n) := by
  have ht := lt8 t
  unfold blkP rowP
  rw [dif_pos hn, dif_pos (by omega)]
  refine congrArg clip ?_
  show V m c main_call0_v1 (((cfg0.win 0).blk t).view.emb (ix2 b ⟨n, hn⟩)) = _
  rw [emb0]
  exact V_probs_apply m c b _
theorem blkX_row (c : Dev nD) (t : Fin cfg0.N) (b : Fin 8) (d : Fin 1024) (n : ℕ) (hn : n < 256) :
    blkX (hidBlk m c t) b d n = rowX (hid m c) b d (256 * t.val + n) := by
  have ht := lt8 t
  unfold blkX rowX
  rw [dif_pos hn, dif_pos (by omega)]
  show V m c main_arg0 (((cfg0.win 1).blk t).view.emb (ix3 b ⟨n, hn⟩ d)) = _
  rw [emb1, V_main_arg0]

/-! ## The carried state and the result -/

/-- From the row's state after `256 t` positions, point `t`'s block reaches the row's state after `256 t + n`. -/
theorem state_row (c : Dev nD) (t : Fin cfg0.N) (h0 : Vec Ideal S8x1024 .f32) (b : Fin 8) (d : Fin 1024)
    (hh : h0 (ix2 b d) = ema (rowP (prob m c) b) (rowX (hid m c) b d) 0 (256 * t.val)) (n : ℕ) (hn : n ≤ 256) :
    stateAt (probBlk m c t) (hidBlk m c t) h0 n (ix2 b d) = ema (rowP (prob m c) b) (rowX (hid m c) b d) 0 (256 * t.val + n) := by
  rw [← ema_add, ← hh]
  exact ema_congr _ n fun k hk => ⟨blkP_row m c t b k (by omega), blkX_row m c t b d k (by omega)⟩

/-- The state carried into point `n` is the row's state after `256 n` positions. -/
theorem carried_row (c : Dev nD) (b : Fin 8) (d : Fin 1024) : ∀ n : ℕ, n < 8 →
    carried m c n (ix2 b d) = ema (rowP (prob m c) b) (rowX (hid m c) b d) 0 (256 * n)
  | 0, _ => rfl
  | n + 1, hn => by
    have ht : n < cfg0.N := by rw [show cfg0.N = 8 from N_0]; omega
    rw [carried_succ m c ⟨n, ht⟩]
    exact state_row m c ⟨n, ht⟩ _ b d (carried_row c b d n (by omega)) 256 le_rfl

/-- What a point writes back is its block of the moving averages. -/
theorem flushed_eq (c : Dev nD) (t : Fin cfg0.N) :
    (dat m 0 c).flushed 2 t = ((cfg0.win 2).blk t).view.read (Elt Ideal) (averages (hid m c) (prob m c)) := by
  show (cfg0.win 2).cut (grid0.coords t) ((dat m 0 c).after 2 t) = _
  rw [after_2]
  funext j
  show outBlk (probBlk m c t) (hidBlk m c t) (carried m c t.val) j = averages (hid m c) (prob m c) (((cfg0.win 2).blk t).view.emb j)
  obtain ⟨b, n, d, rfl⟩ : ∃ (b : Fin 8) (n : Fin 256) (d : Fin 1024), j = ix3 b n d := ⟨j 0, j 1, j 2, eq_ix3 j⟩
  rw [emb2]
  show stateAt _ _ _ (n.val + 1) (ix2 b d) = ema _ _ 0 (256 * t.val + n.val + 1)
  exact state_row m c t _ b d (carried_row m c b d t.val (lt8 t)) (n.val + 1) (by omega)

/-- Every index of the result is in some point's block. -/
theorem covered (i : S8x2048x1024.Idx) : ∃ t : Fin cfg0.N, (cfg0.win 2).flush t = true ∧ i ∈ ((cfg0.win 2).blk t).view.set := by
  obtain ⟨b, n, d, rfl⟩ : ∃ (b : Fin 8) (n : Fin 2048) (d : Fin 1024), i = ix3 b n d := ⟨i 0, i 1, i 2, eq_ix3 i⟩
  have ht : n.val / 256 < cfg0.N := by rw [show cfg0.N = 8 from N_0]; omega
  refine ⟨⟨n.val / 256, ht⟩, flush0_2 _, ?_⟩
  have h := ((cfg0.win 2).blk ⟨n.val / 256, ht⟩).view.emb_mem_set (ix3 b (⟨n.val % 256, by omega⟩ : Fin 256) d)
  rw [emb2] at h
  have e : (⟨256 * (n.val / 256) + n.val % 256, by omega⟩ : Fin 2048) = n := Fin.ext (by show 256 * (n.val / 256) + n.val % 256 = n.val; omega)
  simp only [e] at h
  exact h

/-- The result array after the run. -/
theorem final (c : Dev nD) : (dat m 0 c).arrAt 2 cfg0.N = averages (hid m c) (prob m c) :=
  (dat m 0 c).arrAt_eq_of_cover 2 (averages (hid m c) (prob m c)) (fun t _ => flushed_eq m c t) covered

/-- The run with its result as a function of the arguments. -/
theorem run : θ_run defs (onTc (τ := τ) (main (F := Ideal))) ⟨m, fun _ => 0, ρ⟩ (fun r => ∀ c : Dev nD,
      r.2.mem ((c.tc : Thread nD τ).loc main_v0) = averages (hid m c) (prob m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m c), (h c).2⟩) (run_result m ρ)

end Cert.KernelIdeal.Ema
-- ==== Proof.RefRun.lean ====
/-
  The reference's run. `main` is six stretches of host operations, one counted loop of 2048 trips, and six stretches after
  it. `run_fold` says every execution ends with every buffer at the fold of these. Then one
  trip's values from any contents, the step (`STEP`), and the arguments, which nothing writes. The text follows the run
  printed for this program; what the operations after the loop make is read off in RefTail.lean, in named pieces.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1052

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 4 host operations of @main, in order. -/
abbrev hostOps0 : List (HloOp τ sig (Elt F)) :=
  [ StableHlo.unary main_arg2 main_v0 ((extractStridedSlice S8x2048x1 ![0, 0, 1] · slices_S8x2048x2_S8x2048x1_0_0_1) : (⟨S8x2048x2, .f32⟩ : BufTy).Contents (Elt F) → (⟨S8x2048x1, .f32⟩ : BufTy).Contents (Elt F)),
    StableHlo.reshape main_v0 main_v1 (rfl : (.f32 : EltTy) = .f32) shapeCasts_S8x2048x1_S8x2048,
    StableHlo.nullary main_cst (constant S_ .f32 0x38D1B717#32),
    StableHlo.nullary main_cst_0 (constant S_ .f32 0x3F7FF972#32) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩
/-- 6 host operations of @clip (main_call0), in order. -/
abbrev hostOps0_1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8x2048, .f32⟩) (broadcastInDim S8x2048 ![] bcast_S_S8x2048),
    StableHlo.TRef.binary (.of main_call0_v1 : StableHlo.TRef sig ⟨S8x2048, .f32⟩) (.of main_v1 : StableHlo.TRef sig ⟨S8x2048, .f32⟩) (.of main_call0_v2 : StableHlo.TRef sig ⟨S8x2048, .f32⟩) maximumf,
    StableHlo.TRef.unary (.of main_cst_0 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S8x2048, .f32⟩) (broadcastInDim S8x2048 ![] bcast_S_S8x2048),
    StableHlo.TRef.binary (.of main_call0_v4 : StableHlo.TRef sig ⟨S8x2048, .f32⟩) (.of main_call0_v2 : StableHlo.TRef sig ⟨S8x2048, .f32⟩) (.of main_v2 : StableHlo.TRef sig ⟨S8x2048, .f32⟩) minimumf ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 9 host operations of @main, in order. -/
abbrev hostOps0_2 : List (HloOp τ sig (Elt F)) :=
  [ StableHlo.nullary main_v3 (iotaInDim S2048 32 0),
    StableHlo.unary main_v3 main_v4 (broadcastInDim S1x2048 ![1] bcast_S2048_S1x2048_1 : (⟨S2048, .i32⟩ : BufTy).Contents (Elt F) → (⟨S1x2048, .i32⟩ : BufTy).Contents (Elt F)),
    StableHlo.unary main_arg1 main_v5 (noti : (⟨S8x2048, .i1⟩ : BufTy).Contents (Elt F) → (⟨S8x2048, .i1⟩ : BufTy).Contents (Elt F)),
    StableHlo.unary main_v5 main_v6 ((extui 32 · natLt_1_32) : (⟨S8x2048, .i1⟩ : BufTy).Contents (Elt F) → (⟨S8x2048, .i32⟩ : BufTy).Contents (Elt F)),
    StableHlo.nullary main_c (constantI S_ 32 2048#32),
    StableHlo.unary main_c main_v7 (broadcastInDim S8x2048 ![] bcast_S_S8x2048 : (⟨S_, .i32⟩ : BufTy).Contents (Elt F) → (⟨S8x2048, .i32⟩ : BufTy).Contents (Elt F)),
    StableHlo.binary main_v6 main_v7 main_v8 (muli : (⟨S8x2048, .i32⟩ : BufTy).Contents (Elt F) → (⟨S8x2048, .i32⟩ : BufTy).Contents (Elt F) → (⟨S8x2048, .i32⟩ : BufTy).Contents (Elt F)),
    StableHlo.unary main_v4 main_v9 (broadcastInDim S8x2048 ![0, 1] bcast_S1x2048_S8x2048_0_1 : (⟨S1x2048, .i32⟩ : BufTy).Contents (Elt F) → (⟨S8x2048, .i32⟩ : BufTy).Contents (Elt F)),
    StableHlo.binary main_v9 main_v8 main_v10 (addi : (⟨S8x2048, .i32⟩ : BufTy).Contents (Elt F) → (⟨S8x2048, .i32⟩ : BufTy).Contents (Elt F) → (⟨S8x2048, .i32⟩ : BufTy).Contents (Elt F)) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub ..⟩
/-- 3 host operations of @argsort (main_call1), in order. -/
abbrev hostOps0_3 : List (HloOp τ sig (Elt F)) :=
  [ StableHlo.TRef.nullary (.of main_call1_v0 : StableHlo.TRef sig ⟨S8x2048, .i32⟩) (iotaInDim S8x2048 32 1),
    StableHlo.TRef.binary (.of main_v10 : StableHlo.TRef sig ⟨S8x2048, .i32⟩) (.of main_call1_v0 : StableHlo.TRef sig ⟨S8x2048, .i32⟩) (.of main_call1_v1_0 : StableHlo.TRef sig ⟨S8x2048, .i32⟩) (fun x y => (Host.sort2 S8x2048 1 comparator_i32_i32_d1 x y).1),
    StableHlo.TRef.binary (.of main_v10 : StableHlo.TRef sig ⟨S8x2048, .i32⟩) (.of main_call1_v0 : StableHlo.TRef sig ⟨S8x2048, .i32⟩) (.of main_v11 : StableHlo.TRef sig ⟨S8x2048, .i32⟩) (fun x y => (Host.sort2 S8x2048 1 comparator_i32_i32_d1 x y).2) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.binary_bufs_sub .., StableHlo.binary_bufs_sub ..⟩
/-- 22 host operations of @take_along_axis (main_call2), in order. -/
abbrev hostOps0_4 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8x2048, .i32⟩) (broadcastInDim S8x2048 ![] bcast_S_S8x2048),
    StableHlo.TRef.binary (.of main_v11 : StableHlo.TRef sig ⟨S8x2048, .i32⟩) (.of main_call2_v0 : StableHlo.TRef sig ⟨S8x2048, .i32⟩) (.of main_call2_v1 : StableHlo.TRef sig ⟨S8x2048, .i1⟩) (cmpi .slt),
    StableHlo.TRef.nullary (.of main_call2_c_0 : StableHlo.TRef sig ⟨S_, .i32⟩) (constantI S_ 32 2048#32),
    StableHlo.TRef.unary (.of main_call2_c_0 : StableHlo.TRef sig ⟨S_, .i32⟩) (.of main_call2_v2 : StableHlo.TRef sig ⟨S8x2048, .i32⟩) (broadcastInDim S8x2048 ![] bcast_S_S8x2048),
    StableHlo.TRef.binary (.of main_v11 : StableHlo.TRef sig ⟨S8x2048, .i32⟩) (.of main_call2_v2 : StableHlo.TRef sig ⟨S8x2048, .i32⟩) (.of main_call2_v3 : StableHlo.TRef sig ⟨S8x2048, .i32⟩) addi,
    StableHlo.TRef.ternary (.of main_call2_v1 : StableHlo.TRef sig ⟨S8x2048, .i1⟩) (.of main_call2_v3 : StableHlo.TRef sig ⟨S8x2048, .i32⟩) (.of main_v11 : StableHlo.TRef sig ⟨S8x2048, .i32⟩) (.of main_call2_v4 : StableHlo.TRef sig ⟨S8x2048, .i32⟩) select,
    StableHlo.TRef.reshape (.of main_call2_v4 : StableHlo.TRef sig ⟨S8x2048, .i32⟩) (.of main_call2_v5 : StableHlo.TRef sig ⟨S8x2048x1, .i32⟩) (rfl : (.i32 : EltTy) = .i32) shapeCasts_S8x2048_S8x2048x1,
    StableHlo.TRef.nullary (.of main_call2_c_1 : StableHlo.TRef sig ⟨S1, .i32⟩) (constantI S1 32 2047#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8x2048x1, .i32⟩) (broadcastInDim S8x2048x1 ![] bcast_S_S8x2048x1),
    StableHlo.TRef.binary (.of main_call2_v5 : StableHlo.TRef sig ⟨S8x2048x1, .i32⟩) (.of main_call2_v6 : StableHlo.TRef sig ⟨S8x2048x1, .i32⟩) (.of main_call2_v7 : StableHlo.TRef sig ⟨S8x2048x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S8x2048x1, .i32⟩) (broadcastInDim S8x2048x1 ![0, 1, 2] bcast_S1x1x1_S8x2048x1_0_1_2),
    StableHlo.TRef.binary (.of main_call2_v5 : StableHlo.TRef sig ⟨S8x2048x1, .i32⟩) (.of main_call2_v9 : StableHlo.TRef sig ⟨S8x2048x1, .i32⟩) (.of main_call2_v10 : StableHlo.TRef sig ⟨S8x2048x1, .i1⟩) (cmpi .sle),
    StableHlo.TRef.binary (.of main_call2_v7 : StableHlo.TRef sig ⟨S8x2048x1, .i1⟩) (.of main_call2_v10 : StableHlo.TRef sig ⟨S8x2048x1, .i1⟩) (.of main_call2_v11 : StableHlo.TRef sig ⟨S8x2048x1, .i1⟩) andi,
    StableHlo.TRef.nullary (.of main_call2_c_3 : StableHlo.TRef sig ⟨S_, .i1⟩) (constantI S_ 1 1#1),
    StableHlo.TRef.binary (.of main_call2_v11 : StableHlo.TRef sig ⟨S8x2048x1, .i1⟩) (.of main_call2_c_3 : StableHlo.TRef sig ⟨S_, .i1⟩) (.of main_call2_v12 : StableHlo.TRef sig ⟨S8x2048, .i1⟩) (fun x v => Host.reduce IntOp.andi x v reducesTo_S8x2048x1_S8x2048_d2 h_S_),
    StableHlo.TRef.binary (.of main_v2 : StableHlo.TRef sig ⟨S8x2048, .f32⟩) (.of main_call2_v5 : StableHlo.TRef sig ⟨S8x2048x1, .i32⟩) (.of main_call2_v13 : StableHlo.TRef sig ⟨S8x2048, .f32⟩) (fun x i => Host.gather gather_S8x2048_S8x2048x1_S8x2048_n_1_0_0_1_2_11 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8x2048, .f32⟩) (broadcastInDim S8x2048 ![] bcast_S_S8x2048),
    StableHlo.TRef.ternary (.of main_call2_v12 : StableHlo.TRef sig ⟨S8x2048, .i1⟩) (.of main_call2_v13 : StableHlo.TRef sig ⟨S8x2048, .f32⟩) (.of main_call2_v14 : StableHlo.TRef sig ⟨S8x2048, .f32⟩) (.of main_v12 : StableHlo.TRef sig ⟨S8x2048, .f32⟩) select ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 12 host operations of @main, in order. -/
abbrev hostOps0_5 : List (HloOp τ sig (Elt F)) :=
  [ StableHlo.nullary main_cst_1 (constant S_ .f32 0x00000000#32),
    StableHlo.unary main_cst_1 main_v13 (broadcastInDim S8x1024 ![] bcast_S_S8x1024 : (⟨S_, .f32⟩ : BufTy).Contents (Elt F) → (⟨S8x1024, .f32⟩ : BufTy).Contents (Elt F)),
    StableHlo.unary main_arg0 main_v14 ((transpose S2048x8x1024 [1, 0, 2] · transposes_S8x2048x1024_S2048x8x1024_1_0_2) : (⟨S8x2048x1024, .f32⟩ : BufTy).Contents (Elt F) → (⟨S2048x8x1024, .f32⟩ : BufTy).Contents (Elt F)),
    StableHlo.unary main_v12 main_v15 ((transpose S2048x8 [1, 0] · transposes_S8x2048_S2048x8_1_0) : (⟨S8x2048, .f32⟩ : BufTy).Contents (Elt F) → (⟨S2048x8, .f32⟩ : BufTy).Contents (Elt F)),
    StableHlo.nullary main_cst_2 (constant S_ .f32 0x00000000#32),
    StableHlo.unary main_cst_2 main_v16 (broadcastInDim S2048x8x1024 ![] bcast_S_S2048x8x1024 : (⟨S_, .f32⟩ : BufTy).Contents (Elt F) → (⟨S2048x8x1024, .f32⟩ : BufTy).Contents (Elt F)),
    StableHlo.nullary main_c_3 (constantI S_ 32 0#32),
    StableHlo.unary main_v14 main_v17_0 id,
    StableHlo.unary main_v15 main_v17_1 id,
    StableHlo.unary main_c_3 main_v17_2 id,
    StableHlo.unary main_v13 main_v17_3 id,
    StableHlo.unary main_v16 main_v17_4 id ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 12 host operations of @main, in order. -/
abbrev hostOps0_6 : List (HloOp τ sig (Elt F)) :=
  [ StableHlo.unary main_v17_4 main_v18 ((transpose S8x2048x1024 [1, 0, 2] · transposes_S2048x8x1024_S8x2048x1024_1_0_2) : (⟨S2048x8x1024, .f32⟩ : BufTy).Contents (Elt F) → (⟨S8x2048x1024, .f32⟩ : BufTy).Contents (Elt F)),
    StableHlo.unary main_arg1 main_v19 ((extui 32 · natLt_1_32) : (⟨S8x2048, .i1⟩ : BufTy).Contents (Elt F) → (⟨S8x2048, .i32⟩ : BufTy).Contents (Elt F)),
    StableHlo.nullary main_c_4 (constantI S_ 32 0#32),
    StableHlo.binary main_v19 main_c_4 main_v20 ((fun x v => Host.reduce IntOp.addi x v reducesTo_S8x2048_S8_d1 h_S_) : (⟨S8x2048, .i32⟩ : BufTy).Contents (Elt F) → (⟨S_, .i32⟩ : BufTy).Contents (Elt F) → (⟨S8, .i32⟩ : BufTy).Contents (Elt F)),
    StableHlo.nullary main_v21 (iotaInDim S2048 32 0),
    StableHlo.unary main_v21 main_v22 (broadcastInDim S1x2048 ![1] bcast_S2048_S1x2048_1 : (⟨S2048, .i32⟩ : BufTy).Contents (Elt F) → (⟨S1x2048, .i32⟩ : BufTy).Contents (Elt F)),
    StableHlo.unary main_v20 main_v23 (broadcastInDim S8x1 ![0] bcast_S8_S8x1_0 : (⟨S8, .i32⟩ : BufTy).Contents (Elt F) → (⟨S8x1, .i32⟩ : BufTy).Contents (Elt F)),
    StableHlo.unary main_v22 main_v24 (broadcastInDim S8x2048 ![0, 1] bcast_S1x2048_S8x2048_0_1 : (⟨S1x2048, .i32⟩ : BufTy).Contents (Elt F) → (⟨S8x2048, .i32⟩ : BufTy).Contents (Elt F)),
    StableHlo.unary main_v23 main_v25 (broadcastInDim S8x2048 ![0, 1] bcast_S8x1_S8x2048_0_1 : (⟨S8x1, .i32⟩ : BufTy).Contents (Elt F) → (⟨S8x2048, .i32⟩ : BufTy).Contents (Elt F)),
    StableHlo.binary main_v24 main_v25 main_v26 (cmpi .slt : (⟨S8x2048, .i32⟩ : BufTy).Contents (Elt F) → (⟨S8x2048, .i32⟩ : BufTy).Contents (Elt F) → (⟨S8x2048, .i1⟩ : BufTy).Contents (Elt F)),
    StableHlo.unary main_v26 main_v27 (broadcastInDim S8x2048x1 ![0, 1] bcast_S8x2048_S8x2048x1_0_1 : (⟨S8x2048, .i1⟩ : BufTy).Contents (Elt F) → (⟨S8x2048x1, .i1⟩ : BufTy).Contents (Elt F)),
    StableHlo.nullary main_cst_5 (constant S_ .f32 0x00000000#32) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.unary_bufs_sub .., StableHlo.nullary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub ..⟩
/-- 4 host operations of @_where (main_call6), in order. -/
abbrev hostOps0_7 : List (HloOp τ sig (Elt F)) :=
  [ StableHlo.TRef.unary (.of main_cst_5 : StableHlo.TRef sig ⟨S_, .f32⟩) (.of main_call6_v0 : StableHlo.TRef sig ⟨S_, .f32⟩) id,
    StableHlo.TRef.unary (.of main_v27 : StableHlo.TRef sig ⟨S8x2048x1, .i1⟩) (.of main_call6_v1 : StableHlo.TRef sig ⟨S8x2048x1024, .i1⟩) (broadcastInDim S8x2048x1024 ![0, 1, 2] bcast_S8x2048x1_S8x2048x1024_0_1_2),
    StableHlo.TRef.unary (.of main_call6_v0 : StableHlo.TRef sig ⟨S_, .f32⟩) (.of main_call6_v2 : StableHlo.TRef sig ⟨S8x2048x1024, .f32⟩) (broadcastInDim S8x2048x1024 ![] bcast_S_S8x2048x1024),
    StableHlo.TRef.ternary (.of main_call6_v1 : StableHlo.TRef sig ⟨S8x2048x1024, .i1⟩) (.of main_v18 : StableHlo.TRef sig ⟨S8x2048x1024, .f32⟩) (.of main_call6_v2 : StableHlo.TRef sig ⟨S8x2048x1024, .f32⟩) (.of main_v28 : StableHlo.TRef sig ⟨S8x2048x1024, .f32⟩) select ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 1 host operation of @main, in order. -/
abbrev hostOps0_8 : List (HloOp τ sig (Elt F)) :=
  [ StableHlo.unary main_arg1 main_v29 ((extui 32 · natLt_1_32) : (⟨S8x2048, .i1⟩ : BufTy).Contents (Elt F) → (⟨S8x2048, .i32⟩ : BufTy).Contents (Elt F)) ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  StableHlo.unary_bufs_sub ..
/-- 3 host operations of @cumsum (main_call7), in order. -/
abbrev hostOps0_9 : List (HloOp τ sig (Elt F)) :=
  [ StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_v29 : StableHlo.TRef sig ⟨S8x2048, .i32⟩) (.of main_call7_call0_v0 : StableHlo.TRef sig ⟨S_, .i32⟩) (.of main_v30 : StableHlo.TRef sig ⟨S8x2048, .i32⟩) (fun x v => Host.reduceWindow IntOp.addi ![1, 2048] ![1, 1] ![0, 2047] ![0, 0] x v reduceWindows_S8x2048_S8x2048_w1s1p0_0_w2048s1p2047_0 h_S_) ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.nullary_bufs_sub .., StableHlo.unary_bufs_sub .., StableHlo.binary_bufs_sub ..⟩
/-- 8 host operations of @main, in order. -/
abbrev hostOps0_10 : List (HloOp τ sig (Elt F)) :=
  [ StableHlo.nullary main_c_6 (constantI S_ 32 1#32),
    StableHlo.unary main_c_6 main_v31 (broadcastInDim S8x2048 ![] bcast_S_S8x2048 : (⟨S_, .i32⟩ : BufTy).Contents (Elt F) → (⟨S8x2048, .i32⟩ : BufTy).Contents (Elt F)),
    StableHlo.binary main_v30 main_v31 main_v32 (subi : (⟨S8x2048, .i32⟩ : BufTy).Contents (Elt F) → (⟨S8x2048, .i32⟩ : BufTy).Contents (Elt F) → (⟨S8x2048, .i32⟩ : BufTy).Contents (Elt F)),
    StableHlo.nullary main_c_7 (constantI S_ 32 0#32),
    StableHlo.unary main_c_7 main_v33 (broadcastInDim S8x2048 ![] bcast_S_S8x2048 : (⟨S_, .i32⟩ : BufTy).Contents (Elt F) → (⟨S8x2048, .i32⟩ : BufTy).Contents (Elt F)),
    StableHlo.binary main_v32 main_v33 main_v34 (maxsi : (⟨S8x2048, .i32⟩ : BufTy).Contents (Elt F) → (⟨S8x2048, .i32⟩ : BufTy).Contents (Elt F) → (⟨S8x2048, .i32⟩ : BufTy).Contents (Elt F)),
    StableHlo.unary main_v34 main_v35 (broadcastInDim S8x2048x1 ![0, 1] bcast_S8x2048_S8x2048x1_0_1 : (⟨S8x2048, .i32⟩ : BufTy).Contents (Elt F) → (⟨S8x2048x1, .i32⟩ : BufTy).Contents (Elt F)),
    StableHlo.unary main_v35 main_v36 (broadcastInDim S8x2048x1024 ![0, 1, 2] bcast_S8x2048x1_S8x2048x1024_0_1_2 : (⟨S8x2048x1, .i32⟩ : BufTy).Contents (Elt F) → (⟨S8x2048x1024, .i32⟩ : BufTy).Contents (Elt F)) ]
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub ..⟩
/-- 22 host operations of @take_along_axis_2 (main_call8), in order. -/
abbrev hostOps0_11 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S8x2048x1024, .i32⟩) (broadcastInDim S8x2048x1024 ![] bcast_S_S8x2048x1024),
    StableHlo.TRef.binary (.of main_v36 : StableHlo.TRef sig ⟨S8x2048x1024, .i32⟩) (.of main_call8_v0 : StableHlo.TRef sig ⟨S8x2048x1024, .i32⟩) (.of main_call8_v1 : StableHlo.TRef sig ⟨S8x2048x1024, .i1⟩) (cmpi .slt),
    StableHlo.TRef.nullary (.of main_call8_c_0 : StableHlo.TRef sig ⟨S_, .i32⟩) (constantI S_ 32 2048#32),
    StableHlo.TRef.unary (.of main_call8_c_0 : StableHlo.TRef sig ⟨S_, .i32⟩) (.of main_call8_v2 : StableHlo.TRef sig ⟨S8x2048x1024, .i32⟩) (broadcastInDim S8x2048x1024 ![] bcast_S_S8x2048x1024),
    StableHlo.TRef.binary (.of main_v36 : StableHlo.TRef sig ⟨S8x2048x1024, .i32⟩) (.of main_call8_v2 : StableHlo.TRef sig ⟨S8x2048x1024, .i32⟩) (.of main_call8_v3 : StableHlo.TRef sig ⟨S8x2048x1024, .i32⟩) addi,
    StableHlo.TRef.ternary (.of main_call8_v1 : StableHlo.TRef sig ⟨S8x2048x1024, .i1⟩) (.of main_call8_v3 : StableHlo.TRef sig ⟨S8x2048x1024, .i32⟩) (.of main_v36 : StableHlo.TRef sig ⟨S8x2048x1024, .i32⟩) (.of main_call8_v4 : StableHlo.TRef sig ⟨S8x2048x1024, .i32⟩) select,
    StableHlo.TRef.reshape (.of main_call8_v4 : StableHlo.TRef sig ⟨S8x2048x1024, .i32⟩) (.of main_call8_v5 : StableHlo.TRef sig ⟨S8x2048x1024x1, .i32⟩) (rfl : (.i32 : EltTy) = .i32) shapeCasts_S8x2048x1024_S8x2048x1024x1,
    StableHlo.TRef.nullary (.of main_call8_c_1 : StableHlo.TRef sig ⟨S1, .i32⟩) (constantI S1 32 2047#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S8x2048x1024x1, .i32⟩) (broadcastInDim S8x2048x1024x1 ![] bcast_S_S8x2048x1024x1),
    StableHlo.TRef.binary (.of main_call8_v5 : StableHlo.TRef sig ⟨S8x2048x1024x1, .i32⟩) (.of main_call8_v6 : StableHlo.TRef sig ⟨S8x2048x1024x1, .i32⟩) (.of main_call8_v7 : StableHlo.TRef sig ⟨S8x2048x1024x1, .i1⟩) (cmpi .sge),
    StableHlo.TRef.unary (.of main_call8_c_1 : StableHlo.TRef sig ⟨S1, .i32⟩) (.of main_call8_v8 : StableHlo.TRef sig ⟨S1x1x1x1, .i32⟩) (broadcastInDim S1x1x1x1 ![3] bcast_S1_S1x1x1x1_3),
    StableHlo.TRef.unary (.of main_call8_v8 : StableHlo.TRef sig ⟨S1x1x1x1, .i32⟩) (.of main_call8_v9 : StableHlo.TRef sig ⟨S8x2048x1024x1, .i32⟩) (broadcastInDim S8x2048x1024x1 ![0, 1, 2, 3] bcast_S1x1x1x1_S8x2048x1024x1_0_1_2_3),
    StableHlo.TRef.binary (.of main_call8_v5 : StableHlo.TRef sig ⟨S8x2048x1024x1, .i32⟩) (.of main_call8_v9 : StableHlo.TRef sig ⟨S8x2048x1024x1, .i32⟩) (.of main_call8_v10 : StableHlo.TRef sig ⟨S8x2048x1024x1, .i1⟩) (cmpi .sle),
    StableHlo.TRef.binary (.of main_call8_v7 : StableHlo.TRef sig ⟨S8x2048x1024x1, .i1⟩) (.of main_call8_v10 : StableHlo.TRef sig ⟨S8x2048x1024x1, .i1⟩) (.of main_call8_v11 : StableHlo.TRef sig ⟨S8x2048x1024x1, .i1⟩) andi,
    StableHlo.TRef.nullary (.of main_call8_c_3 : StableHlo.TRef sig ⟨S_, .i1⟩) (constantI S_ 1 1#1),
    StableHlo.TRef.binary (.of main_call8_v11 : StableHlo.TRef sig ⟨S8x2048x1024x1, .i1⟩) (.of main_call8_c_3 : StableHlo.TRef sig ⟨S_, .i1⟩) (.of main_call8_v12 : StableHlo.TRef sig ⟨S8x2048x1024, .i1⟩) (fun x v => Host.reduce IntOp.andi x v reducesTo_S8x2048x1024x1_S8x2048x1024_d3 h_S_),
    StableHlo.TRef.binary (.of main_v28 : StableHlo.TRef sig ⟨S8x2048x1024, .f32⟩) (.of main_call8_v5 : StableHlo.TRef sig ⟨S8x2048x1024x1, .i32⟩) (.of main_call8_v13 : StableHlo.TRef sig ⟨S8x2048x1024, .f32⟩) (fun x i => Host.gather gather_S8x2048x1024_S8x2048x1024x1_S8x2048x1024_n_1_02_02_1_3_111 x i),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v14 : StableHlo.TRef sig ⟨S8x2048x1024, .f32⟩) (broadcastInDim S8x2048x1024 ![] bcast_S_S8x2048x1024),
    StableHlo.TRef.ternary (.of main_call8_v12 : StableHlo.TRef sig ⟨S8x2048x1024, .i1⟩) (.of main_call8_v13 : StableHlo.TRef sig ⟨S8x2048x1024, .f32⟩) (.of main_call8_v14 : StableHlo.TRef sig ⟨S8x2048x1024, .f32⟩) (.of main_v37 : StableHlo.TRef sig ⟨S8x2048x1024, .f32⟩) select ]
/-- Each touches TensorCore references only (`HostSeg.ofOps` over `StableHlo.tcRefs`, or a subset by `sub_ucRefs`). -/
theorem hostOps0_11_sub : (hostOps0_11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    HostLoop.enter 0,
    StableHlo.seq hostOps0_6,
    StableHlo.seq hostOps0_7,
    StableHlo.seq hostOps0_8,
    StableHlo.seq hostOps0_9,
    StableHlo.seq hostOps0_10,
    StableHlo.seq hostOps0_11 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons]
  chain_rfl

-- no `main_segs` (the loop-free kit's `Seg.run` equation) for this @main: it has a host loop; a certificate takes `main_chain` (Lib/Pipeline/RegionsLoop.lean)

/-- 4 host operations of @dynamic_index_in_dim (main_while0b_call3), in order. -/
abbrev while0Ops0 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.unaryIndexed (.of main_v17_0 : StableHlo.TRef sig ⟨S2048x8x1024, .f32⟩) ![(.of main_v17_2 : StableHlo.TRef sig ⟨S_, .i32⟩), (.of main_while0b_call3_c : StableHlo.TRef sig ⟨S_, .i32⟩), (.of main_while0b_call3_c_0 : StableHlo.TRef sig ⟨S_, .i32⟩)] (.of main_while0b_call3_v0 : StableHlo.TRef sig ⟨S1x8x1024, .f32⟩) (fun x i => Host.dynamicSlice S1x8x1024 x (fun k => (i k (Shape.Idx.first h_S_)).toInt) sliceFits_S2048x8x1024_S1x8x1024),
    StableHlo.TRef.reshape (.of main_while0b_call3_v0 : StableHlo.TRef sig ⟨S1x8x1024, .f32⟩) (.of main_while0b_v38 : StableHlo.TRef sig ⟨S8x1024, .f32⟩) (rfl : (.f32 : EltTy) = .f32) shapeCasts_S1x8x1024_S8x1024 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 3 host operations of @dynamic_index_in_dim_0 (main_while0b_call4), in order. -/
abbrev while0Ops0_1 : List (HloOp τ sig (Elt F)) :=
  [ StableHlo.TRef.nullary (.of main_while0b_call4_c : StableHlo.TRef sig ⟨S_, .i32⟩) (constantI S_ 32 0#32),
    StableHlo.TRef.unaryIndexed (.of main_v17_1 : StableHlo.TRef sig ⟨S2048x8, .f32⟩) ![(.of main_v17_2 : StableHlo.TRef sig ⟨S_, .i32⟩), (.of main_while0b_call4_c : StableHlo.TRef sig ⟨S_, .i32⟩)] (.of main_while0b_call4_v0 : StableHlo.TRef sig ⟨S1x8, .f32⟩) (fun x i => Host.dynamicSlice S1x8 x (fun k => (i k (Shape.Idx.first h_S_)).toInt) sliceFits_S2048x8_S1x8),
    StableHlo.TRef.reshape (.of main_while0b_call4_v0 : StableHlo.TRef sig ⟨S1x8, .f32⟩) (.of main_while0b_v39 : StableHlo.TRef sig ⟨S8, .f32⟩) (rfl : (.f32 : EltTy) = .f32) shapeCasts_S1x8_S8 ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 10 host operations of host loop 0's body region, in order. -/
abbrev while0Ops0_2 : List (HloOp τ sig (Elt F)) :=
  [ StableHlo.unary main_while0b_v39 main_while0b_v40 (broadcastInDim S8x1 ![0] bcast_S8_S8x1_0 : (⟨S8, .f32⟩ : BufTy).Contents (Elt F) → (⟨S8x1, .f32⟩ : BufTy).Contents (Elt F)),
    StableHlo.nullary main_while0b_cst_12 (constant S_ .f32 0x3F800000#32),
    StableHlo.unary main_while0b_cst_12 main_while0b_v41 (broadcastInDim S8x1 ![] bcast_S_S8x1 : (⟨S_, .f32⟩ : BufTy).Contents (Elt F) → (⟨S8x1, .f32⟩ : BufTy).Contents (Elt F)),
    StableHlo.binary main_while0b_v41 main_while0b_v40 main_while0b_v42 (subf : (⟨S8x1, .f32⟩ : BufTy).Contents (Elt F) → (⟨S8x1, .f32⟩ : BufTy).Contents (Elt F) → (⟨S8x1, .f32⟩ : BufTy).Contents (Elt F)),
    StableHlo.unary main_while0b_v42 main_while0b_v43 (broadcastInDim S8x1024 ![0, 1] bcast_S8x1_S8x1024_0_1 : (⟨S8x1, .f32⟩ : BufTy).Contents (Elt F) → (⟨S8x1024, .f32⟩ : BufTy).Contents (Elt F)),
    StableHlo.binary main_while0b_v43 main_v17_3 main_while0b_v44 (mulf : (⟨S8x1024, .f32⟩ : BufTy).Contents (Elt F) → (⟨S8x1024, .f32⟩ : BufTy).Contents (Elt F) → (⟨S8x1024, .f32⟩ : BufTy).Contents (Elt F)),
    StableHlo.unary main_while0b_v39 main_while0b_v45 (broadcastInDim S8x1 ![0] bcast_S8_S8x1_0 : (⟨S8, .f32⟩ : BufTy).Contents (Elt F) → (⟨S8x1, .f32⟩ : BufTy).Contents (Elt F)),
    StableHlo.unary main_while0b_v45 main_while0b_v46 (broadcastInDim S8x1024 ![0, 1] bcast_S8x1_S8x1024_0_1 : (⟨S8x1, .f32⟩ : BufTy).Contents (Elt F) → (⟨S8x1024, .f32⟩ : BufTy).Contents (Elt F)),
    StableHlo.binary main_while0b_v46 main_while0b_v38 main_while0b_v47 (mulf : (⟨S8x1024, .f32⟩ : BufTy).Contents (Elt F) → (⟨S8x1024, .f32⟩ : BufTy).Contents (Elt F) → (⟨S8x1024, .f32⟩ : BufTy).Contents (Elt F)),
    StableHlo.binary main_while0b_v44 main_while0b_v47 main_while0b_v48 (addf : (⟨S8x1024, .f32⟩ : BufTy).Contents (Elt F) → (⟨S8x1024, .f32⟩ : BufTy).Contents (Elt F) → (⟨S8x1024, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub ..⟩
/-- 4 host operations of @dynamic_update_index_in_dim (main_while0b_call5), in order. -/
abbrev while0Ops0_3 : List (HloOp τ sig (Elt F)) :=
  [ StableHlo.TRef.unary (.of main_while0b_v48 : StableHlo.TRef sig ⟨S8x1024, .f32⟩) (.of main_while0b_call5_v0 : StableHlo.TRef sig ⟨S1x8x1024, .f32⟩) (broadcastInDim S1x8x1024 ![1, 2] bcast_S8x1024_S1x8x1024_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v17_4 : StableHlo.TRef sig ⟨S2048x8x1024, .f32⟩) (.of main_while0b_call5_v0 : StableHlo.TRef sig ⟨S1x8x1024, .f32⟩) ![(.of main_v17_2 : StableHlo.TRef sig ⟨S_, .i32⟩), (.of main_while0b_call5_c : StableHlo.TRef sig ⟨S_, .i32⟩), (.of main_while0b_call5_c_0 : StableHlo.TRef sig ⟨S_, .i32⟩)] (.of main_while0b_v49 : StableHlo.TRef sig ⟨S2048x8x1024, .f32⟩) (fun x u i => Host.dynamicUpdateSlice x u (fun k => (i k (Shape.Idx.first h_S_)).toInt) updateFits_S2048x8x1024_S1x8x1024) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 5 host operations of host loop 0's body region, in order. -/
abbrev while0Ops0_4 : List (HloOp τ sig (Elt F)) :=
  [ StableHlo.nullary main_while0b_c_13 (constantI S_ 32 1#32),
    StableHlo.binary main_v17_2 main_while0b_c_13 main_while0b_v50 (addi : (⟨S_, .i32⟩ : BufTy).Contents (Elt F) → (⟨S_, .i32⟩ : BufTy).Contents (Elt F) → (⟨S_, .i32⟩ : BufTy).Contents (Elt F)),
    StableHlo.unary main_while0b_v50 main_v17_2 id,
    StableHlo.unary main_while0b_v48 main_v17_3 id,
    StableHlo.unary main_while0b_v49 main_v17_4 id ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4 ] : Prog (TpuEff nD τ sig (Elt F) (HostLoop.Sig (Pipeline.Sig Λ₀ (Fin 0) fun p => (pcfgs (F := F) p).Adm) 1) .tc) PUnit) := by
  rewrite [Pipeline.chain_cons, Pipeline.chain_cons, StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_cst, main_cst_0]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_v1, main_call0_v2, main_call0_v3, main_call0_v4, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v3, main_v4, main_v5, main_v6, main_c, main_v7, main_v8, main_v9, main_v10]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_call1_v1_0, main_v11]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v12]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_cst_1, main_v13, main_v14, main_v15, main_cst_2, main_v16, main_c_3, main_v17_0, main_v17_1, main_v17_2, main_v17_3, main_v17_4]
theorem hostOps0_5_writes : (hostOps0_5 : List (HloOp τ sig (Elt F))).Forall fun op => op.writes ⊆ (hostOps0_5_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call3_c, main_while0b_call3_c_0, main_while0b_call3_v0, main_while0b_v38]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call4_c, main_while0b_call4_v0, main_while0b_v39]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v40, main_while0b_cst_12, main_while0b_v41, main_while0b_v42, main_while0b_v43, main_while0b_v44, main_while0b_v45, main_while0b_v46, main_while0b_v47, main_while0b_v48]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call5_v0, main_while0b_call5_c, main_while0b_call5_c_0, main_while0b_v49]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_c_13, main_while0b_v50, main_v17_2, main_v17_3, main_v17_4]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl
/-- No operation of `hostOps0_8` allocates a buffer. -/
theorem hostOps0_8_fresh : (hostOps0_8 : List (HloOp τ sig (Elt F))).Forall fun op => op.fresh = ∅ :=
  StableHlo.forall_fresh_of_map rfl
/-- No operation of `hostOps0_9` allocates a buffer. -/
theorem hostOps0_9_fresh : (hostOps0_9 : List (HloOp τ sig (Elt F))).Forall fun op => op.fresh = ∅ :=
  StableHlo.forall_fresh_of_map rfl
/-- No operation of `hostOps0_10` allocates a buffer. -/
theorem hostOps0_10_fresh : (hostOps0_10 : List (HloOp τ sig (Elt F))).Forall fun op => op.fresh = ∅ :=
  StableHlo.forall_fresh_of_map rfl
/-- No operation of `hostOps0_11` allocates a buffer. -/
theorem hostOps0_11_fresh : (hostOps0_11 : List (HloOp τ sig (Elt F))).Forall fun op => op.fresh = ∅ :=
  StableHlo.forall_fresh_of_map rfl
/-- The reference each operation of `hostOps0_6` writes, in order. -/
abbrev hostOps0_6_W : List (Ref sig .tc) := [main_v18, main_v19, main_c_4, main_v20, main_v21, main_v22, main_v23, main_v24, main_v25, main_v26, main_v27, main_cst_5]
theorem hostOps0_6_writes : (hostOps0_6 : List (HloOp τ sig (Elt F))).Forall fun op => op.writes ⊆ (hostOps0_6_W.map (Proc.devRef (τ := τ) .tc)).toFinset :=
  StableHlo.forall_writes_sub_of_map rfl
/-- The reference each operation of `hostOps0_7` writes, in order. -/
abbrev hostOps0_7_W : List (Ref sig .tc) := [main_call6_v0, main_call6_v1, main_call6_v2, main_v28]
theorem hostOps0_7_writes : (hostOps0_7 : List (HloOp τ sig (Elt F))).Forall fun op => op.writes ⊆ (hostOps0_7_W.map (Proc.devRef (τ := τ) .tc)).toFinset :=
  StableHlo.forall_writes_sub_of_map rfl
/-- The reference each operation of `hostOps0_8` writes, in order. -/
abbrev hostOps0_8_W : List (Ref sig .tc) := [main_v29]
theorem hostOps0_8_writes : (hostOps0_8 : List (HloOp τ sig (Elt F))).Forall fun op => op.writes ⊆ (hostOps0_8_W.map (Proc.devRef (τ := τ) .tc)).toFinset :=
  StableHlo.forall_writes_sub_of_map rfl
/-- The reference each operation of `hostOps0_9` writes, in order. -/
abbrev hostOps0_9_W : List (Ref sig .tc) := [main_call7_call0_c, main_call7_call0_v0, main_v30]
theorem hostOps0_9_writes : (hostOps0_9 : List (HloOp τ sig (Elt F))).Forall fun op => op.writes ⊆ (hostOps0_9_W.map (Proc.devRef (τ := τ) .tc)).toFinset :=
  StableHlo.forall_writes_sub_of_map rfl
/-- The reference each operation of `hostOps0_10` writes, in order. -/
abbrev hostOps0_10_W : List (Ref sig .tc) := [main_c_6, main_v31, main_v32, main_c_7, main_v33, main_v34, main_v35, main_v36]
theorem hostOps0_10_writes : (hostOps0_10 : List (HloOp τ sig (Elt F))).Forall fun op => op.writes ⊆ (hostOps0_10_W.map (Proc.devRef (τ := τ) .tc)).toFinset :=
  StableHlo.forall_writes_sub_of_map rfl
/-- The reference each operation of `hostOps0_11` writes, in order. -/
abbrev hostOps0_11_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v37]
theorem hostOps0_11_writes : (hostOps0_11 : List (HloOp τ sig (Elt F))).Forall fun op => op.writes ⊆ (hostOps0_11_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_12 (constantI S_ 32 2048#32),
    StableHlo.binary main_v17_2 main_while0c_c_12 main_while0c_v38 (cmpi .slt) ]

/-- @main's stretches before the loop, the loop body's, and @main's after the loop. -/
abbrev preI : List (List (HloOp τ sig (Elt F))) := [hostOps0, hostOps0_1, hostOps0_2, hostOps0_3, hostOps0_4, hostOps0_5]
abbrev bodyI : List (List (HloOp τ sig (Elt F))) := [while0Ops0, while0Ops0_1, while0Ops0_2, while0Ops0_3, while0Ops0_4]
abbrev postI : List (List (HloOp τ sig (Elt F))) := [hostOps0_6, hostOps0_7, hostOps0_8, hostOps0_9, hostOps0_10, hostOps0_11]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil))))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))
theorem hpost : Plain (postI (F := F)) := .cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.cons hostOps0_11_sub (hf := List.forall_iff_forall_mem.mp hostOps0_11_fresh) (.nil))))))

/-- The reference each operation of `condOps` writes, in order. -/
abbrev condOps_W : List (Ref sig .tc) := [main_while0c_c_12, main_while0c_v38]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v17_2`) is written by one stretch of the body, `while0Ops0_4`: not by the condition, nor by the
    body's other stretches. -/
theorem ctr_cond (V : Valuation τ sig (Elt F)) : after condOps V (Proc.devRef .tc main_v17_2) = V (Proc.devRef .tc main_v17_2) :=
  after_of_writes_sub condOps V condOps_writes (by decide +kernel)
theorem ctr_while0Ops0 (V : Valuation τ sig (Elt F)) : after while0Ops0 V (Proc.devRef .tc main_v17_2) = V (Proc.devRef .tc main_v17_2) :=
  after_of_writes_sub while0Ops0 V while0Ops0_writes (by decide +kernel)
theorem ctr_while0Ops0_1 (V : Valuation τ sig (Elt F)) : after while0Ops0_1 V (Proc.devRef .tc main_v17_2) = V (Proc.devRef .tc main_v17_2) :=
  after_of_writes_sub while0Ops0_1 V while0Ops0_1_writes (by decide +kernel)
theorem ctr_while0Ops0_2 (V : Valuation τ sig (Elt F)) : after while0Ops0_2 V (Proc.devRef .tc main_v17_2) = V (Proc.devRef .tc main_v17_2) :=
  after_of_writes_sub while0Ops0_2 V while0Ops0_2_writes (by decide +kernel)
theorem ctr_while0Ops0_3 (V : Valuation τ sig (Elt F)) : after while0Ops0_3 V (Proc.devRef .tc main_v17_2) = V (Proc.devRef .tc main_v17_2) :=
  after_of_writes_sub while0Ops0_3 V while0Ops0_3_writes (by decide +kernel)

set_option maxRecDepth 100000 in
/-- `while0Ops0_4` leaves the counter one step on. -/
theorem ctr_step (X : Valuation τ sig (Elt F)) :
    after while0Ops0_4 X (Proc.devRef .tc main_v17_2) = addi (X (Proc.devRef .tc main_v17_2)) (constantI S_ 32 1#32) := by
  after_results
  rfl

/-- The counter is the loop's lower bound at the loop's entry: its last writer before the loop read back. -/
theorem ctr_entry (c : Dev nD) : entryContents preI m c (Proc.devRef .tc main_v17_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v17_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 2048 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v17_2 HostLoop.idx0)
        (HloOp.result _ (atK m k c) main_while0c_c_12 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 2048 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 2048 m ρ (cond_spec m)

/-! ## One trip's values -/

/-- The body's operations 1 … 3 of 26. -/
abbrev trip_w0 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.unaryIndexed (.of main_v17_0 : StableHlo.TRef sig ⟨S2048x8x1024, .f32⟩) ![(.of main_v17_2 : StableHlo.TRef sig ⟨S_, .i32⟩), (.of main_while0b_call3_c : StableHlo.TRef sig ⟨S_, .i32⟩), (.of main_while0b_call3_c_0 : StableHlo.TRef sig ⟨S_, .i32⟩)] (.of main_while0b_call3_v0 : StableHlo.TRef sig ⟨S1x8x1024, .f32⟩) (fun x i => Host.dynamicSlice S1x8x1024 x (fun k => (i k (Shape.Idx.first h_S_)).toInt) sliceFits_S2048x8x1024_S1x8x1024) ]

/-- The body's operations 4 … 4 of 26. -/
abbrev trip_w1 : List (HloOp τ sig (Elt F)) :=
  [ StableHlo.TRef.reshape (.of main_while0b_call3_v0 : StableHlo.TRef sig ⟨S1x8x1024, .f32⟩) (.of main_while0b_v38 : StableHlo.TRef sig ⟨S8x1024, .f32⟩) (rfl : (.f32 : EltTy) = .f32) shapeCasts_S1x8x1024_S8x1024 ]

/-- The body's operations 5 … 6 of 26. -/
abbrev trip_w2 : List (HloOp τ sig (Elt F)) :=
  [ StableHlo.TRef.nullary (.of main_while0b_call4_c : StableHlo.TRef sig ⟨S_, .i32⟩) (constantI S_ 32 0#32),
    StableHlo.TRef.unaryIndexed (.of main_v17_1 : StableHlo.TRef sig ⟨S2048x8, .f32⟩) ![(.of main_v17_2 : StableHlo.TRef sig ⟨S_, .i32⟩), (.of main_while0b_call4_c : StableHlo.TRef sig ⟨S_, .i32⟩)] (.of main_while0b_call4_v0 : StableHlo.TRef sig ⟨S1x8, .f32⟩) (fun x i => Host.dynamicSlice S1x8 x (fun k => (i k (Shape.Idx.first h_S_)).toInt) sliceFits_S2048x8_S1x8) ]

/-- The body's operations 7 … 7 of 26. -/
abbrev trip_w3 : List (HloOp τ sig (Elt F)) :=
  [ StableHlo.TRef.reshape (.of main_while0b_call4_v0 : StableHlo.TRef sig ⟨S1x8, .f32⟩) (.of main_while0b_v39 : StableHlo.TRef sig ⟨S8, .f32⟩) (rfl : (.f32 : EltTy) = .f32) shapeCasts_S1x8_S8 ]

/-- The body's operations 8 … 17 of 26. -/
abbrev trip_w4 : List (HloOp τ sig (Elt F)) :=
  [ StableHlo.unary main_while0b_v39 main_while0b_v40 (broadcastInDim S8x1 ![0] bcast_S8_S8x1_0 : (⟨S8, .f32⟩ : BufTy).Contents (Elt F) → (⟨S8x1, .f32⟩ : BufTy).Contents (Elt F)),
    StableHlo.nullary main_while0b_cst_12 (constant S_ .f32 0x3F800000#32),
    StableHlo.unary main_while0b_cst_12 main_while0b_v41 (broadcastInDim S8x1 ![] bcast_S_S8x1 : (⟨S_, .f32⟩ : BufTy).Contents (Elt F) → (⟨S8x1, .f32⟩ : BufTy).Contents (Elt F)),
    StableHlo.binary main_while0b_v41 main_while0b_v40 main_while0b_v42 (subf : (⟨S8x1, .f32⟩ : BufTy).Contents (Elt F) → (⟨S8x1, .f32⟩ : BufTy).Contents (Elt F) → (⟨S8x1, .f32⟩ : BufTy).Contents (Elt F)),
    StableHlo.unary main_while0b_v42 main_while0b_v43 (broadcastInDim S8x1024 ![0, 1] bcast_S8x1_S8x1024_0_1 : (⟨S8x1, .f32⟩ : BufTy).Contents (Elt F) → (⟨S8x1024, .f32⟩ : BufTy).Contents (Elt F)),
    StableHlo.binary main_while0b_v43 main_v17_3 main_while0b_v44 (mulf : (⟨S8x1024, .f32⟩ : BufTy).Contents (Elt F) → (⟨S8x1024, .f32⟩ : BufTy).Contents (Elt F) → (⟨S8x1024, .f32⟩ : BufTy).Contents (Elt F)),
    StableHlo.unary main_while0b_v39 main_while0b_v45 (broadcastInDim S8x1 ![0] bcast_S8_S8x1_0 : (⟨S8, .f32⟩ : BufTy).Contents (Elt F) → (⟨S8x1, .f32⟩ : BufTy).Contents (Elt F)),
    StableHlo.unary main_while0b_v45 main_while0b_v46 (broadcastInDim S8x1024 ![0, 1] bcast_S8x1_S8x1024_0_1 : (⟨S8x1, .f32⟩ : BufTy).Contents (Elt F) → (⟨S8x1024, .f32⟩ : BufTy).Contents (Elt F)),
    StableHlo.binary main_while0b_v46 main_while0b_v38 main_while0b_v47 (mulf : (⟨S8x1024, .f32⟩ : BufTy).Contents (Elt F) → (⟨S8x1024, .f32⟩ : BufTy).Contents (Elt F) → (⟨S8x1024, .f32⟩ : BufTy).Contents (Elt F)),
    StableHlo.binary main_while0b_v44 main_while0b_v47 main_while0b_v48 (addf : (⟨S8x1024, .f32⟩ : BufTy).Contents (Elt F) → (⟨S8x1024, .f32⟩ : BufTy).Contents (Elt F) → (⟨S8x1024, .f32⟩ : BufTy).Contents (Elt F)) ]

/-- The body's operations 18 … 21 of 26. -/
abbrev trip_w5 : List (HloOp τ sig (Elt F)) :=
  [ StableHlo.TRef.unary (.of main_while0b_v48 : StableHlo.TRef sig ⟨S8x1024, .f32⟩) (.of main_while0b_call5_v0 : StableHlo.TRef sig ⟨S1x8x1024, .f32⟩) (broadcastInDim S1x8x1024 ![1, 2] bcast_S8x1024_S1x8x1024_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v17_4 : StableHlo.TRef sig ⟨S2048x8x1024, .f32⟩) (.of main_while0b_call5_v0 : StableHlo.TRef sig ⟨S1x8x1024, .f32⟩) ![(.of main_v17_2 : StableHlo.TRef sig ⟨S_, .i32⟩), (.of main_while0b_call5_c : StableHlo.TRef sig ⟨S_, .i32⟩), (.of main_while0b_call5_c_0 : StableHlo.TRef sig ⟨S_, .i32⟩)] (.of main_while0b_v49 : StableHlo.TRef sig ⟨S2048x8x1024, .f32⟩) (fun x u i => Host.dynamicUpdateSlice x u (fun k => (i k (Shape.Idx.first h_S_)).toInt) updateFits_S2048x8x1024_S1x8x1024) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 ++ (trip_w3) := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 := rfl

set_option maxRecDepth 8192 in
/-- `main_while0b_v39`'s composed term of the carried buffers (named: it is used 2 times). -/
def res_main_while0b_v39 (V0 : Valuation τ sig (Elt F)) : (Proc.devRef .tc main_while0b_v39 : DevRef τ sig).ty.Contents (Elt F) :=
  shapeCast S8 (Host.dynamicSlice S1x8 (V0 (Proc.devRef .tc main_v17_1)) (fun k => (((![V0 (Proc.devRef .tc main_v17_2), constantI S_ 32 0#32] : Fin 2 → (⟨S_, .i32⟩ : BufTy).Contents (Elt F))) k (Shape.Idx.first h_S_)).toInt) sliceFits_S2048x8_S1x8) shapeCasts_S1x8_S8

set_option maxRecDepth 8192 in
/-- `main_while0b_v48`'s composed term of the carried buffers (named: it is used 2 times). -/
def res_main_while0b_v48 (V0 : Valuation τ sig (Elt F)) : (Proc.devRef .tc main_while0b_v48 : DevRef τ sig).ty.Contents (Elt F) :=
  addf (mulf (broadcastInDim S8x1024 ![0, 1] bcast_S8x1_S8x1024_0_1 (subf (broadcastInDim S8x1 ![] bcast_S_S8x1 (constant S_ .f32 0x3F800000#32)) (broadcastInDim S8x1 ![0] bcast_S8_S8x1_0 (res_main_while0b_v39 V0)))) (V0 (Proc.devRef .tc main_v17_3))) (mulf (broadcastInDim S8x1024 ![0, 1] bcast_S8x1_S8x1024_0_1 (broadcastInDim S8x1 ![0] bcast_S8_S8x1_0 (res_main_while0b_v39 V0))) (shapeCast S8x1024 (Host.dynamicSlice S1x8x1024 (V0 (Proc.devRef .tc main_v17_0)) (fun k => (((![V0 (Proc.devRef .tc main_v17_2), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024))

/-- The device's buffer contents before the body's first window. -/
def val0 (V0 : Valuation τ sig (Elt F)) : Valuation τ sig (Elt F) := V0
theorem val0_main_v17_0 (V0 : Valuation τ sig (Elt F)) : val0 V0 (no_index (Proc.devRef .tc main_v17_0)) = V0 (Proc.devRef .tc main_v17_0) := rfl
theorem val0_main_v17_2 (V0 : Valuation τ sig (Elt F)) : val0 V0 (no_index (Proc.devRef .tc main_v17_2)) = V0 (Proc.devRef .tc main_v17_2) := rfl
theorem val0_main_v17_1 (V0 : Valuation τ sig (Elt F)) : val0 V0 (no_index (Proc.devRef .tc main_v17_1)) = V0 (Proc.devRef .tc main_v17_1) := rfl
theorem val0_main_v17_3 (V0 : Valuation τ sig (Elt F)) : val0 V0 (no_index (Proc.devRef .tc main_v17_3)) = V0 (Proc.devRef .tc main_v17_3) := rfl
theorem val0_main_v17_4 (V0 : Valuation τ sig (Elt F)) : val0 V0 (no_index (Proc.devRef .tc main_v17_4)) = V0 (Proc.devRef .tc main_v17_4) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call3_c, main_while0b_call3_c_0, main_while0b_call3_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v17_0 (V0 : Valuation τ sig (Elt F)) : val1 V0 (no_index (Proc.devRef .tc main_v17_0)) = V0 (Proc.devRef .tc main_v17_0) :=
  (val1_keep V0 main_v17_0 (by decide)).trans (val0_main_v17_0 V0)
theorem val1_main_v17_2 (V0 : Valuation τ sig (Elt F)) : val1 V0 (no_index (Proc.devRef .tc main_v17_2)) = V0 (Proc.devRef .tc main_v17_2) :=
  (val1_keep V0 main_v17_2 (by decide)).trans (val0_main_v17_2 V0)
theorem val1_main_v17_1 (V0 : Valuation τ sig (Elt F)) : val1 V0 (no_index (Proc.devRef .tc main_v17_1)) = V0 (Proc.devRef .tc main_v17_1) :=
  (val1_keep V0 main_v17_1 (by decide)).trans (val0_main_v17_1 V0)
theorem val1_main_v17_3 (V0 : Valuation τ sig (Elt F)) : val1 V0 (no_index (Proc.devRef .tc main_v17_3)) = V0 (Proc.devRef .tc main_v17_3) :=
  (val1_keep V0 main_v17_3 (by decide)).trans (val0_main_v17_3 V0)
theorem val1_main_v17_4 (V0 : Valuation τ sig (Elt F)) : val1 V0 (no_index (Proc.devRef .tc main_v17_4)) = V0 (Proc.devRef .tc main_v17_4) :=
  (val1_keep V0 main_v17_4 (by decide)).trans (val0_main_v17_4 V0)
set_option maxRecDepth 8192 in
theorem val1_main_while0b_call3_v0 (V0 : Valuation τ sig (Elt F)) : val1 V0 (no_index (Proc.devRef .tc main_while0b_call3_v0)) = Host.dynamicSlice S1x8x1024 (V0 (Proc.devRef .tc main_v17_0)) (fun k => (((![V0 (Proc.devRef .tc main_v17_2), constantI S_ 32 0#32, constantI S_ 32 0#32] : Fin 3 → (⟨S_, .i32⟩ : BufTy).Contents (Elt F))) k (Shape.Idx.first h_S_)).toInt) sliceFits_S2048x8x1024_S1x8x1024 := by
  unfold val1
  simp only [trip_w0]
  after_results_entrywise [val0_main_v17_2, val0_main_v17_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v38]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v17_0 (V0 : Valuation τ sig (Elt F)) : val2 V0 (no_index (Proc.devRef .tc main_v17_0)) = V0 (Proc.devRef .tc main_v17_0) :=
  (val2_keep V0 main_v17_0 (by decide)).trans (val1_main_v17_0 V0)
theorem val2_main_v17_2 (V0 : Valuation τ sig (Elt F)) : val2 V0 (no_index (Proc.devRef .tc main_v17_2)) = V0 (Proc.devRef .tc main_v17_2) :=
  (val2_keep V0 main_v17_2 (by decide)).trans (val1_main_v17_2 V0)
theorem val2_main_v17_1 (V0 : Valuation τ sig (Elt F)) : val2 V0 (no_index (Proc.devRef .tc main_v17_1)) = V0 (Proc.devRef .tc main_v17_1) :=
  (val2_keep V0 main_v17_1 (by decide)).trans (val1_main_v17_1 V0)
theorem val2_main_v17_3 (V0 : Valuation τ sig (Elt F)) : val2 V0 (no_index (Proc.devRef .tc main_v17_3)) = V0 (Proc.devRef .tc main_v17_3) :=
  (val2_keep V0 main_v17_3 (by decide)).trans (val1_main_v17_3 V0)
theorem val2_main_v17_4 (V0 : Valuation τ sig (Elt F)) : val2 V0 (no_index (Proc.devRef .tc main_v17_4)) = V0 (Proc.devRef .tc main_v17_4) :=
  (val2_keep V0 main_v17_4 (by decide)).trans (val1_main_v17_4 V0)
set_option maxRecDepth 8192 in
theorem val2_main_while0b_v38 (V0 : Valuation τ sig (Elt F)) : val2 V0 (no_index (Proc.devRef .tc main_while0b_v38)) = shapeCast S8x1024 (Host.dynamicSlice S1x8x1024 (V0 (Proc.devRef .tc main_v17_0)) (fun k => (((![V0 (Proc.devRef .tc main_v17_2), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024 := by
  unfold val2
  simp only [trip_w1]
  after_results_entrywise [val1_main_while0b_call3_v0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_call4_c, main_while0b_call4_v0]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v17_0 (V0 : Valuation τ sig (Elt F)) : val3 V0 (no_index (Proc.devRef .tc main_v17_0)) = V0 (Proc.devRef .tc main_v17_0) :=
  (val3_keep V0 main_v17_0 (by decide)).trans (val2_main_v17_0 V0)
theorem val3_main_v17_2 (V0 : Valuation τ sig (Elt F)) : val3 V0 (no_index (Proc.devRef .tc main_v17_2)) = V0 (Proc.devRef .tc main_v17_2) :=
  (val3_keep V0 main_v17_2 (by decide)).trans (val2_main_v17_2 V0)
theorem val3_main_v17_1 (V0 : Valuation τ sig (Elt F)) : val3 V0 (no_index (Proc.devRef .tc main_v17_1)) = V0 (Proc.devRef .tc main_v17_1) :=
  (val3_keep V0 main_v17_1 (by decide)).trans (val2_main_v17_1 V0)
theorem val3_main_v17_3 (V0 : Valuation τ sig (Elt F)) : val3 V0 (no_index (Proc.devRef .tc main_v17_3)) = V0 (Proc.devRef .tc main_v17_3) :=
  (val3_keep V0 main_v17_3 (by decide)).trans (val2_main_v17_3 V0)
theorem val3_main_v17_4 (V0 : Valuation τ sig (Elt F)) : val3 V0 (no_index (Proc.devRef .tc main_v17_4)) = V0 (Proc.devRef .tc main_v17_4) :=
  (val3_keep V0 main_v17_4 (by decide)).trans (val2_main_v17_4 V0)
theorem val3_main_while0b_v38 (V0 : Valuation τ sig (Elt F)) : val3 V0 (no_index (Proc.devRef .tc main_while0b_v38)) = shapeCast S8x1024 (Host.dynamicSlice S1x8x1024 (V0 (Proc.devRef .tc main_v17_0)) (fun k => (((![V0 (Proc.devRef .tc main_v17_2), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024 :=
  (val3_keep V0 main_while0b_v38 (by decide)).trans (val2_main_while0b_v38 V0)
set_option maxRecDepth 8192 in
theorem val3_main_while0b_call4_v0 (V0 : Valuation τ sig (Elt F)) : val3 V0 (no_index (Proc.devRef .tc main_while0b_call4_v0)) = Host.dynamicSlice S1x8 (V0 (Proc.devRef .tc main_v17_1)) (fun k => (((![V0 (Proc.devRef .tc main_v17_2), constantI S_ 32 0#32] : Fin 2 → (⟨S_, .i32⟩ : BufTy).Contents (Elt F))) k (Shape.Idx.first h_S_)).toInt) sliceFits_S2048x8_S1x8 := by
  unfold val3
  simp only [trip_w2]
  after_results_entrywise [val2_main_v17_2, val2_main_v17_1, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v39]
set_option maxRecDepth 8192 in
theorem trip_w3_writes : (trip_w3 : List (HloOp τ sig (Elt F))).Forall fun op => op.writes ⊆ (trip_w3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v17_0 (V0 : Valuation τ sig (Elt F)) : val4 V0 (no_index (Proc.devRef .tc main_v17_0)) = V0 (Proc.devRef .tc main_v17_0) :=
  (val4_keep V0 main_v17_0 (by decide)).trans (val3_main_v17_0 V0)
theorem val4_main_v17_2 (V0 : Valuation τ sig (Elt F)) : val4 V0 (no_index (Proc.devRef .tc main_v17_2)) = V0 (Proc.devRef .tc main_v17_2) :=
  (val4_keep V0 main_v17_2 (by decide)).trans (val3_main_v17_2 V0)
theorem val4_main_v17_1 (V0 : Valuation τ sig (Elt F)) : val4 V0 (no_index (Proc.devRef .tc main_v17_1)) = V0 (Proc.devRef .tc main_v17_1) :=
  (val4_keep V0 main_v17_1 (by decide)).trans (val3_main_v17_1 V0)
theorem val4_main_v17_3 (V0 : Valuation τ sig (Elt F)) : val4 V0 (no_index (Proc.devRef .tc main_v17_3)) = V0 (Proc.devRef .tc main_v17_3) :=
  (val4_keep V0 main_v17_3 (by decide)).trans (val3_main_v17_3 V0)
theorem val4_main_v17_4 (V0 : Valuation τ sig (Elt F)) : val4 V0 (no_index (Proc.devRef .tc main_v17_4)) = V0 (Proc.devRef .tc main_v17_4) :=
  (val4_keep V0 main_v17_4 (by decide)).trans (val3_main_v17_4 V0)
theorem val4_main_while0b_v38 (V0 : Valuation τ sig (Elt F)) : val4 V0 (no_index (Proc.devRef .tc main_while0b_v38)) = shapeCast S8x1024 (Host.dynamicSlice S1x8x1024 (V0 (Proc.devRef .tc main_v17_0)) (fun k => (((![V0 (Proc.devRef .tc main_v17_2), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024 :=
  (val4_keep V0 main_while0b_v38 (by decide)).trans (val3_main_while0b_v38 V0)
set_option maxRecDepth 8192 in
theorem val4_main_while0b_v39 (V0 : Valuation τ sig (Elt F)) : val4 V0 (no_index (Proc.devRef .tc main_while0b_v39)) = res_main_while0b_v39 V0 := by
  unfold val4
  simp only [trip_w3]
  after_results_entrywise [val3_main_while0b_call4_v0, res_main_while0b_v39, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v40, main_while0b_cst_12, main_while0b_v41, main_while0b_v42, main_while0b_v43, main_while0b_v44, main_while0b_v45, main_while0b_v46, main_while0b_v47, main_while0b_v48]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v17_0 (V0 : Valuation τ sig (Elt F)) : val5 V0 (no_index (Proc.devRef .tc main_v17_0)) = V0 (Proc.devRef .tc main_v17_0) :=
  (val5_keep V0 main_v17_0 (by decide)).trans (val4_main_v17_0 V0)
theorem val5_main_v17_2 (V0 : Valuation τ sig (Elt F)) : val5 V0 (no_index (Proc.devRef .tc main_v17_2)) = V0 (Proc.devRef .tc main_v17_2) :=
  (val5_keep V0 main_v17_2 (by decide)).trans (val4_main_v17_2 V0)
theorem val5_main_v17_1 (V0 : Valuation τ sig (Elt F)) : val5 V0 (no_index (Proc.devRef .tc main_v17_1)) = V0 (Proc.devRef .tc main_v17_1) :=
  (val5_keep V0 main_v17_1 (by decide)).trans (val4_main_v17_1 V0)
theorem val5_main_v17_3 (V0 : Valuation τ sig (Elt F)) : val5 V0 (no_index (Proc.devRef .tc main_v17_3)) = V0 (Proc.devRef .tc main_v17_3) :=
  (val5_keep V0 main_v17_3 (by decide)).trans (val4_main_v17_3 V0)
theorem val5_main_v17_4 (V0 : Valuation τ sig (Elt F)) : val5 V0 (no_index (Proc.devRef .tc main_v17_4)) = V0 (Proc.devRef .tc main_v17_4) :=
  (val5_keep V0 main_v17_4 (by decide)).trans (val4_main_v17_4 V0)
set_option maxRecDepth 8192 in
set_option maxHeartbeats 1000000 in
theorem val5_main_while0b_v48 (V0 : Valuation τ sig (Elt F)) : val5 V0 (no_index (Proc.devRef .tc main_while0b_v48)) = res_main_while0b_v48 V0 := by
  unfold val5
  simp only [trip_w4]
  after_results_entrywise [val4_main_while0b_v38, val4_main_while0b_v39, val4_main_v17_3, res_main_while0b_v48, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call5_v0, main_while0b_call5_c, main_while0b_call5_c_0, main_while0b_v49]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v17_0 (V0 : Valuation τ sig (Elt F)) : val6 V0 (no_index (Proc.devRef .tc main_v17_0)) = V0 (Proc.devRef .tc main_v17_0) :=
  (val6_keep V0 main_v17_0 (by decide)).trans (val5_main_v17_0 V0)
theorem val6_main_v17_2 (V0 : Valuation τ sig (Elt F)) : val6 V0 (no_index (Proc.devRef .tc main_v17_2)) = V0 (Proc.devRef .tc main_v17_2) :=
  (val6_keep V0 main_v17_2 (by decide)).trans (val5_main_v17_2 V0)
theorem val6_main_v17_1 (V0 : Valuation τ sig (Elt F)) : val6 V0 (no_index (Proc.devRef .tc main_v17_1)) = V0 (Proc.devRef .tc main_v17_1) :=
  (val6_keep V0 main_v17_1 (by decide)).trans (val5_main_v17_1 V0)
theorem val6_main_v17_3 (V0 : Valuation τ sig (Elt F)) : val6 V0 (no_index (Proc.devRef .tc main_v17_3)) = V0 (Proc.devRef .tc main_v17_3) :=
  (val6_keep V0 main_v17_3 (by decide)).trans (val5_main_v17_3 V0)
theorem val6_main_v17_4 (V0 : Valuation τ sig (Elt F)) : val6 V0 (no_index (Proc.devRef .tc main_v17_4)) = V0 (Proc.devRef .tc main_v17_4) :=
  (val6_keep V0 main_v17_4 (by decide)).trans (val5_main_v17_4 V0)
theorem val6_main_while0b_v48 (V0 : Valuation τ sig (Elt F)) : val6 V0 (no_index (Proc.devRef .tc main_while0b_v48)) = res_main_while0b_v48 V0 :=
  (val6_keep V0 main_while0b_v48 (by decide)).trans (val5_main_while0b_v48 V0)
set_option maxRecDepth 8192 in
theorem val6_main_while0b_v49 (V0 : Valuation τ sig (Elt F)) : val6 V0 (no_index (Proc.devRef .tc main_while0b_v49)) = Host.dynamicUpdateSlice (V0 (Proc.devRef .tc main_v17_4)) (broadcastInDim S1x8x1024 ![1, 2] bcast_S8x1024_S1x8x1024_1_2 (res_main_while0b_v48 V0)) (fun k => (((![V0 (Proc.devRef .tc main_v17_2), constantI S_ 32 0#32, constantI S_ 32 0#32] : Fin 3 → (⟨S_, .i32⟩ : BufTy).Contents (Elt F))) k (Shape.Idx.first h_S_)).toInt) updateFits_S2048x8x1024_S1x8x1024 := by
  unfold val6
  simp only [trip_w5]
  after_results_entrywise [val5_main_v17_2, val5_main_while0b_v48, val5_main_v17_4, cast_eq]

set_option maxRecDepth 8192 in
/-- The body's stretches before `while0Ops0_4`, from any contents: their windows in order. -/
theorem trip_windows (V0 : Valuation τ sig (Elt F)) : after while0Ops0_3 (after while0Ops0_2 (after while0Ops0_1 (after while0Ops0 (V0)))) = val6 V0 := by
  simp only [while0Ops0_cut, while0Ops0_1_cut, while0Ops0_2_cut, while0Ops0_3_cut, after_append]
  rfl

set_option maxRecDepth 8192 in
set_option maxHeartbeats 2000000 in
/-- `main_v17_0` after one trip's body, from any contents. -/
theorem trip_main_v17_0 (V0 : Valuation τ sig (Elt F)) : afterL bodyI V0 (no_index (Proc.devRef .tc main_v17_0)) = V0 (Proc.devRef .tc main_v17_0) := by
  simp only [bodyI, afterL_cons, afterL_nil, trip_windows]
  after_results
  all_goals (try simp only [val6_main_while0b_v48, val6_main_while0b_v49, val6_main_v17_0, val6_main_v17_1, val6_main_v17_2, val6_main_v17_3, val6_main_v17_4]) <;> rfl
set_option maxRecDepth 8192 in
set_option maxHeartbeats 2000000 in
/-- `main_v17_1` after one trip's body, from any contents. -/
theorem trip_main_v17_1 (V0 : Valuation τ sig (Elt F)) : afterL bodyI V0 (no_index (Proc.devRef .tc main_v17_1)) = V0 (Proc.devRef .tc main_v17_1) := by
  simp only [bodyI, afterL_cons, afterL_nil, trip_windows]
  after_results
  all_goals (try simp only [val6_main_while0b_v48, val6_main_while0b_v49, val6_main_v17_0, val6_main_v17_1, val6_main_v17_2, val6_main_v17_3, val6_main_v17_4]) <;> rfl
set_option maxRecDepth 8192 in
set_option maxHeartbeats 2000000 in
/-- `main_v17_2` after one trip's body, from any contents. -/
theorem trip_main_v17_2 (V0 : Valuation τ sig (Elt F)) : afterL bodyI V0 (no_index (Proc.devRef .tc main_v17_2)) = id (addi (V0 (Proc.devRef .tc main_v17_2)) (constantI S_ 32 1#32)) := by
  simp only [bodyI, afterL_cons, afterL_nil, trip_windows]
  after_results
  all_goals (try simp only [val6_main_while0b_v48, val6_main_while0b_v49, val6_main_v17_0, val6_main_v17_1, val6_main_v17_2, val6_main_v17_3, val6_main_v17_4]) <;> rfl
set_option maxRecDepth 8192 in
set_option maxHeartbeats 2000000 in
/-- `main_v17_3` after one trip's body, from any contents. -/
theorem trip_main_v17_3 (V0 : Valuation τ sig (Elt F)) : afterL bodyI V0 (no_index (Proc.devRef .tc main_v17_3)) = id (res_main_while0b_v48 V0) := by
  simp only [bodyI, afterL_cons, afterL_nil, trip_windows]
  after_results
  all_goals (try simp only [val6_main_while0b_v48, val6_main_while0b_v49, val6_main_v17_0, val6_main_v17_1, val6_main_v17_2, val6_main_v17_3, val6_main_v17_4]) <;> rfl
set_option maxRecDepth 8192 in
set_option maxHeartbeats 2000000 in
/-- `main_v17_4` after one trip's body, from any contents. -/
theorem trip_main_v17_4 (V0 : Valuation τ sig (Elt F)) : afterL bodyI V0 (no_index (Proc.devRef .tc main_v17_4)) = id (Host.dynamicUpdateSlice (V0 (Proc.devRef .tc main_v17_4)) (broadcastInDim S1x8x1024 ![1, 2] bcast_S8x1024_S1x8x1024_1_2 (res_main_while0b_v48 V0)) (fun k => (((![V0 (Proc.devRef .tc main_v17_2), constantI S_ 32 0#32, constantI S_ 32 0#32] : Fin 3 → (⟨S_, .i32⟩ : BufTy).Contents (Elt F))) k (Shape.Idx.first h_S_)).toInt) updateFits_S2048x8x1024_S1x8x1024) := by
  simp only [bodyI, afterL_cons, afterL_nil, trip_windows]
  after_results
  all_goals (try simp only [val6_main_while0b_v48, val6_main_while0b_v49, val6_main_v17_0, val6_main_v17_1, val6_main_v17_2, val6_main_v17_3, val6_main_v17_4]) <;> rfl

/-- The loop's carried buffers. -/
abbrev carriedRefs : List (Ref sig .tc) := [main_v17_0, main_v17_1, main_v17_2, main_v17_3, main_v17_4]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v39_congr {V0 V0' : Valuation τ sig (Elt F)} (h : Agree V0 V0') : res_main_while0b_v39 V0 = res_main_while0b_v39 V0' := by
  unfold res_main_while0b_v39
  rw [h main_v17_1 (by decide), h main_v17_2 (by decide)]
set_option maxRecDepth 8192 in
theorem res_main_while0b_v48_congr {V0 V0' : Valuation τ sig (Elt F)} (h : Agree V0 V0') : res_main_while0b_v48 V0 = res_main_while0b_v48 V0' := by
  unfold res_main_while0b_v48
  rw [res_main_while0b_v39_congr h, h main_v17_3 (by decide), h main_v17_0 (by decide), h main_v17_2 (by decide)]

set_option maxRecDepth 8192 in
/-- `main_v17_2` after one trip, of the contents before it. -/
def step_main_v17_2 (V0 : Valuation τ sig (Elt F)) : (Proc.devRef .tc main_v17_2 : DevRef τ sig).ty.Contents (Elt F) :=
  id (addi (V0 (Proc.devRef .tc main_v17_2)) (constantI S_ 32 1#32))
set_option maxRecDepth 8192 in
theorem step_main_v17_2_congr {V0 V0' : Valuation τ sig (Elt F)} (h : Agree V0 V0') : step_main_v17_2 V0 = step_main_v17_2 V0' := by
  unfold step_main_v17_2
  rw [h main_v17_2 (by decide)]
set_option maxRecDepth 8192 in
/-- `main_v17_3` after one trip, of the contents before it. -/
def step_main_v17_3 (V0 : Valuation τ sig (Elt F)) : (Proc.devRef .tc main_v17_3 : DevRef τ sig).ty.Contents (Elt F) :=
  id (res_main_while0b_v48 V0)
set_option maxRecDepth 8192 in
theorem step_main_v17_3_congr {V0 V0' : Valuation τ sig (Elt F)} (h : Agree V0 V0') : step_main_v17_3 V0 = step_main_v17_3 V0' := by
  unfold step_main_v17_3
  rw [res_main_while0b_v48_congr h]
set_option maxRecDepth 8192 in
/-- `main_v17_4` after one trip, of the contents before it. -/
def step_main_v17_4 (V0 : Valuation τ sig (Elt F)) : (Proc.devRef .tc main_v17_4 : DevRef τ sig).ty.Contents (Elt F) :=
  id (Host.dynamicUpdateSlice (V0 (Proc.devRef .tc main_v17_4)) (broadcastInDim S1x8x1024 ![1, 2] bcast_S8x1024_S1x8x1024_1_2 (res_main_while0b_v48 V0)) (fun k => (((![V0 (Proc.devRef .tc main_v17_2), constantI S_ 32 0#32, constantI S_ 32 0#32] : Fin 3 → (⟨S_, .i32⟩ : BufTy).Contents (Elt F))) k (Shape.Idx.first h_S_)).toInt) updateFits_S2048x8x1024_S1x8x1024)
set_option maxRecDepth 8192 in
theorem step_main_v17_4_congr {V0 V0' : Valuation τ sig (Elt F)} (h : Agree V0 V0') : step_main_v17_4 V0 = step_main_v17_4 V0' := by
  unfold step_main_v17_4
  rw [res_main_while0b_v48_congr h, h main_v17_4 (by decide), h main_v17_2 (by decide)]

/-- ONE TRIP on the carried buffers: the buffers the body writes step, everything else is as it was. -/
def STEP (V0 : Valuation τ sig (Elt F)) : Valuation τ sig (Elt F) :=
  Function.update (Function.update (Function.update (V0) (Proc.devRef .tc main_v17_2) (step_main_v17_2 V0)) (Proc.devRef .tc main_v17_3) (step_main_v17_3 V0)) (Proc.devRef .tc main_v17_4) (step_main_v17_4 V0)

theorem STEP_main_v17_0 (V0 : Valuation τ sig (Elt F)) : STEP V0 (Proc.devRef .tc main_v17_0) = V0 (Proc.devRef .tc main_v17_0) := by
  unfold STEP; rw [Function.update_of_ne (devRef_ne_of_ne (by decide))]; rw [Function.update_of_ne (devRef_ne_of_ne (by decide))]; rw [Function.update_of_ne (devRef_ne_of_ne (by decide))]
theorem STEP_main_v17_1 (V0 : Valuation τ sig (Elt F)) : STEP V0 (Proc.devRef .tc main_v17_1) = V0 (Proc.devRef .tc main_v17_1) := by
  unfold STEP; rw [Function.update_of_ne (devRef_ne_of_ne (by decide))]; rw [Function.update_of_ne (devRef_ne_of_ne (by decide))]; rw [Function.update_of_ne (devRef_ne_of_ne (by decide))]
theorem STEP_main_v17_2 (V0 : Valuation τ sig (Elt F)) : STEP V0 (Proc.devRef .tc main_v17_2) = step_main_v17_2 V0 := by
  unfold STEP; rw [Function.update_of_ne (devRef_ne_of_ne (by decide))]; rw [Function.update_of_ne (devRef_ne_of_ne (by decide))]; rw [Function.update_self]
theorem STEP_main_v17_3 (V0 : Valuation τ sig (Elt F)) : STEP V0 (Proc.devRef .tc main_v17_3) = step_main_v17_3 V0 := by
  unfold STEP; rw [Function.update_of_ne (devRef_ne_of_ne (by decide))]; rw [Function.update_self]
theorem STEP_main_v17_4 (V0 : Valuation τ sig (Elt F)) : STEP V0 (Proc.devRef .tc main_v17_4) = step_main_v17_4 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v17_0 (after condOps X)).trans ((hc main_v17_0 (by decide)).trans (STEP_main_v17_0 X).symm)
  · exact (trip_main_v17_1 (after condOps X)).trans ((hc main_v17_1 (by decide)).trans (STEP_main_v17_1 X).symm)
  · exact (trip_main_v17_2 (after condOps X)).trans ((step_main_v17_2_congr hc).trans (STEP_main_v17_2 X).symm)
  · exact (trip_main_v17_3 (after condOps X)).trans ((step_main_v17_3_congr hc).trans (STEP_main_v17_3 X).symm)
  · exact (trip_main_v17_4 (after condOps X)).trans ((step_main_v17_4_congr hc).trans (STEP_main_v17_4 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v17_0, STEP_main_v17_0]; exact h main_v17_0 (by decide)
  · rw [STEP_main_v17_1, STEP_main_v17_1]; exact h main_v17_1 (by decide)
  · rw [STEP_main_v17_2, STEP_main_v17_2]; exact step_main_v17_2_congr h
  · rw [STEP_main_v17_3, STEP_main_v17_3]; exact step_main_v17_3_congr h
  · rw [STEP_main_v17_4, STEP_main_v17_4]; exact step_main_v17_4_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_hostOps0_6 (V : Valuation τ sig (Elt F)) : after hostOps0_6 V (Proc.devRef .tc main_arg0) = V (Proc.devRef .tc main_arg0) :=
  after_of_writes_sub hostOps0_6 V hostOps0_6_writes (by decide +kernel)
theorem keep_main_arg0_hostOps0_7 (V : Valuation τ sig (Elt F)) : after hostOps0_7 V (Proc.devRef .tc main_arg0) = V (Proc.devRef .tc main_arg0) :=
  after_of_writes_sub hostOps0_7 V hostOps0_7_writes (by decide +kernel)
theorem keep_main_arg0_hostOps0_8 (V : Valuation τ sig (Elt F)) : after hostOps0_8 V (Proc.devRef .tc main_arg0) = V (Proc.devRef .tc main_arg0) :=
  after_of_writes_sub hostOps0_8 V hostOps0_8_writes (by decide +kernel)
theorem keep_main_arg0_hostOps0_9 (V : Valuation τ sig (Elt F)) : after hostOps0_9 V (Proc.devRef .tc main_arg0) = V (Proc.devRef .tc main_arg0) :=
  after_of_writes_sub hostOps0_9 V hostOps0_9_writes (by decide +kernel)
theorem keep_main_arg0_hostOps0_10 (V : Valuation τ sig (Elt F)) : after hostOps0_10 V (Proc.devRef .tc main_arg0) = V (Proc.devRef .tc main_arg0) :=
  after_of_writes_sub hostOps0_10 V hostOps0_10_writes (by decide +kernel)
theorem keep_main_arg0_hostOps0_11 (V : Valuation τ sig (Elt F)) : after hostOps0_11 V (Proc.devRef .tc main_arg0) = V (Proc.devRef .tc main_arg0) :=
  after_of_writes_sub hostOps0_11 V hostOps0_11_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_5, keep_main_arg0_hostOps0_4, keep_main_arg0_hostOps0_3, keep_main_arg0_hostOps0_2, keep_main_arg0_hostOps0_1, keep_main_arg0_hostOps0]
  | k + 1 => by
    rw [show atK m (k + 1) c = afterL bodyI (after condOps (atK m k c)) from rfl]
    simp only [afterL_cons, afterL_nil]
    rw [keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
theorem keep_main_arg1_hostOps0_5 (V : Valuation τ sig (Elt F)) : after hostOps0_5 V (Proc.devRef .tc main_arg1) = V (Proc.devRef .tc main_arg1) :=
  after_of_writes_sub hostOps0_5 V hostOps0_5_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_hostOps0_6 (V : Valuation τ sig (Elt F)) : after hostOps0_6 V (Proc.devRef .tc main_arg1) = V (Proc.devRef .tc main_arg1) :=
  after_of_writes_sub hostOps0_6 V hostOps0_6_writes (by decide +kernel)
theorem keep_main_arg1_hostOps0_7 (V : Valuation τ sig (Elt F)) : after hostOps0_7 V (Proc.devRef .tc main_arg1) = V (Proc.devRef .tc main_arg1) :=
  after_of_writes_sub hostOps0_7 V hostOps0_7_writes (by decide +kernel)
theorem keep_main_arg1_hostOps0_8 (V : Valuation τ sig (Elt F)) : after hostOps0_8 V (Proc.devRef .tc main_arg1) = V (Proc.devRef .tc main_arg1) :=
  after_of_writes_sub hostOps0_8 V hostOps0_8_writes (by decide +kernel)
theorem keep_main_arg1_hostOps0_9 (V : Valuation τ sig (Elt F)) : after hostOps0_9 V (Proc.devRef .tc main_arg1) = V (Proc.devRef .tc main_arg1) :=
  after_of_writes_sub hostOps0_9 V hostOps0_9_writes (by decide +kernel)
theorem keep_main_arg1_hostOps0_10 (V : Valuation τ sig (Elt F)) : after hostOps0_10 V (Proc.devRef .tc main_arg1) = V (Proc.devRef .tc main_arg1) :=
  after_of_writes_sub hostOps0_10 V hostOps0_10_writes (by decide +kernel)
theorem keep_main_arg1_hostOps0_11 (V : Valuation τ sig (Elt F)) : after hostOps0_11 V (Proc.devRef .tc main_arg1) = V (Proc.devRef .tc main_arg1) :=
  after_of_writes_sub hostOps0_11 V hostOps0_11_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0_5, keep_main_arg1_hostOps0_4, keep_main_arg1_hostOps0_3, keep_main_arg1_hostOps0_2, keep_main_arg1_hostOps0_1, keep_main_arg1_hostOps0]
  | k + 1 => by
    rw [show atK m (k + 1) c = afterL bodyI (after condOps (atK m k c)) from rfl]
    simp only [afterL_cons, afterL_nil]
    rw [keep_main_arg1_while0Ops0_4, keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
theorem keep_main_arg2_hostOps0_4 (V : Valuation τ sig (Elt F)) : after hostOps0_4 V (Proc.devRef .tc main_arg2) = V (Proc.devRef .tc main_arg2) :=
  after_of_writes_sub hostOps0_4 V hostOps0_4_writes (by decide +kernel)
theorem keep_main_arg2_hostOps0_5 (V : Valuation τ sig (Elt F)) : after hostOps0_5 V (Proc.devRef .tc main_arg2) = V (Proc.devRef .tc main_arg2) :=
  after_of_writes_sub hostOps0_5 V hostOps0_5_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_hostOps0_6 (V : Valuation τ sig (Elt F)) : after hostOps0_6 V (Proc.devRef .tc main_arg2) = V (Proc.devRef .tc main_arg2) :=
  after_of_writes_sub hostOps0_6 V hostOps0_6_writes (by decide +kernel)
theorem keep_main_arg2_hostOps0_7 (V : Valuation τ sig (Elt F)) : after hostOps0_7 V (Proc.devRef .tc main_arg2) = V (Proc.devRef .tc main_arg2) :=
  after_of_writes_sub hostOps0_7 V hostOps0_7_writes (by decide +kernel)
theorem keep_main_arg2_hostOps0_8 (V : Valuation τ sig (Elt F)) : after hostOps0_8 V (Proc.devRef .tc main_arg2) = V (Proc.devRef .tc main_arg2) :=
  after_of_writes_sub hostOps0_8 V hostOps0_8_writes (by decide +kernel)
theorem keep_main_arg2_hostOps0_9 (V : Valuation τ sig (Elt F)) : after hostOps0_9 V (Proc.devRef .tc main_arg2) = V (Proc.devRef .tc main_arg2) :=
  after_of_writes_sub hostOps0_9 V hostOps0_9_writes (by decide +kernel)
theorem keep_main_arg2_hostOps0_10 (V : Valuation τ sig (Elt F)) : after hostOps0_10 V (Proc.devRef .tc main_arg2) = V (Proc.devRef .tc main_arg2) :=
  after_of_writes_sub hostOps0_10 V hostOps0_10_writes (by decide +kernel)
theorem keep_main_arg2_hostOps0_11 (V : Valuation τ sig (Elt F)) : after hostOps0_11 V (Proc.devRef .tc main_arg2) = V (Proc.devRef .tc main_arg2) :=
  after_of_writes_sub hostOps0_11 V hostOps0_11_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0_5, keep_main_arg2_hostOps0_4, keep_main_arg2_hostOps0_3, keep_main_arg2_hostOps0_2, keep_main_arg2_hostOps0_1, keep_main_arg2_hostOps0]
  | k + 1 => by
    rw [show atK m (k + 1) c = afterL bodyI (after condOps (atK m k c)) from rfl]
    simp only [afterL_cons, afterL_nil]
    rw [keep_main_arg2_while0Ops0_4, keep_main_arg2_while0Ops0_3, keep_main_arg2_while0Ops0_2, keep_main_arg2_while0Ops0_1, keep_main_arg2_while0Ops0, keep_main_arg2_condOps, atK_main_arg2 c k]

theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
theorem keep_main_arg3_hostOps0_2 (V : Valuation τ sig (Elt F)) : after hostOps0_2 V (Proc.devRef .tc main_arg3) = V (Proc.devRef .tc main_arg3) :=
  after_of_writes_sub hostOps0_2 V hostOps0_2_writes (by decide +kernel)
theorem keep_main_arg3_hostOps0_3 (V : Valuation τ sig (Elt F)) : after hostOps0_3 V (Proc.devRef .tc main_arg3) = V (Proc.devRef .tc main_arg3) :=
  after_of_writes_sub hostOps0_3 V hostOps0_3_writes (by decide +kernel)
theorem keep_main_arg3_hostOps0_4 (V : Valuation τ sig (Elt F)) : after hostOps0_4 V (Proc.devRef .tc main_arg3) = V (Proc.devRef .tc main_arg3) :=
  after_of_writes_sub hostOps0_4 V hostOps0_4_writes (by decide +kernel)
theorem keep_main_arg3_hostOps0_5 (V : Valuation τ sig (Elt F)) : after hostOps0_5 V (Proc.devRef .tc main_arg3) = V (Proc.devRef .tc main_arg3) :=
  after_of_writes_sub hostOps0_5 V hostOps0_5_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_while0Ops0_2 (V : Valuation τ sig (Elt F)) : after while0Ops0_2 V (Proc.devRef .tc main_arg3) = V (Proc.devRef .tc main_arg3) :=
  after_of_writes_sub while0Ops0_2 V while0Ops0_2_writes (by decide +kernel)
theorem keep_main_arg3_while0Ops0_3 (V : Valuation τ sig (Elt F)) : after while0Ops0_3 V (Proc.devRef .tc main_arg3) = V (Proc.devRef .tc main_arg3) :=
  after_of_writes_sub while0Ops0_3 V while0Ops0_3_writes (by decide +kernel)
theorem keep_main_arg3_while0Ops0_4 (V : Valuation τ sig (Elt F)) : after while0Ops0_4 V (Proc.devRef .tc main_arg3) = V (Proc.devRef .tc main_arg3) :=
  after_of_writes_sub while0Ops0_4 V while0Ops0_4_writes (by decide +kernel)
theorem keep_main_arg3_hostOps0_6 (V : Valuation τ sig (Elt F)) : after hostOps0_6 V (Proc.devRef .tc main_arg3) = V (Proc.devRef .tc main_arg3) :=
  after_of_writes_sub hostOps0_6 V hostOps0_6_writes (by decide +kernel)
theorem keep_main_arg3_hostOps0_7 (V : Valuation τ sig (Elt F)) : after hostOps0_7 V (Proc.devRef .tc main_arg3) = V (Proc.devRef .tc main_arg3) :=
  after_of_writes_sub hostOps0_7 V hostOps0_7_writes (by decide +kernel)
theorem keep_main_arg3_hostOps0_8 (V : Valuation τ sig (Elt F)) : after hostOps0_8 V (Proc.devRef .tc main_arg3) = V (Proc.devRef .tc main_arg3) :=
  after_of_writes_sub hostOps0_8 V hostOps0_8_writes (by decide +kernel)
theorem keep_main_arg3_hostOps0_9 (V : Valuation τ sig (Elt F)) : after hostOps0_9 V (Proc.devRef .tc main_arg3) = V (Proc.devRef .tc main_arg3) :=
  after_of_writes_sub hostOps0_9 V hostOps0_9_writes (by decide +kernel)
theorem keep_main_arg3_hostOps0_10 (V : Valuation τ sig (Elt F)) : after hostOps0_10 V (Proc.devRef .tc main_arg3) = V (Proc.devRef .tc main_arg3) :=
  after_of_writes_sub hostOps0_10 V hostOps0_10_writes (by decide +kernel)
theorem keep_main_arg3_hostOps0_11 (V : Valuation τ sig (Elt F)) : after hostOps0_11 V (Proc.devRef .tc main_arg3) = V (Proc.devRef .tc main_arg3) :=
  after_of_writes_sub hostOps0_11 V hostOps0_11_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0_5, keep_main_arg3_hostOps0_4, keep_main_arg3_hostOps0_3, keep_main_arg3_hostOps0_2, keep_main_arg3_hostOps0_1, keep_main_arg3_hostOps0]
  | k + 1 => by
    rw [show atK m (k + 1) c = afterL bodyI (after condOps (atK m k c)) from rfl]
    simp only [afterL_cons, afterL_nil]
    rw [keep_main_arg3_while0Ops0_4, keep_main_arg3_while0Ops0_3, keep_main_arg3_while0Ops0_2, keep_main_arg3_while0Ops0_1, keep_main_arg3_while0Ops0, keep_main_arg3_condOps, atK_main_arg3 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_11, keep_main_arg0_hostOps0_10, keep_main_arg0_hostOps0_9, keep_main_arg0_hostOps0_8, keep_main_arg0_hostOps0_7, keep_main_arg0_hostOps0_6]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_11, keep_main_arg1_hostOps0_10, keep_main_arg1_hostOps0_9, keep_main_arg1_hostOps0_8, keep_main_arg1_hostOps0_7, keep_main_arg1_hostOps0_6]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_11, keep_main_arg2_hostOps0_10, keep_main_arg2_hostOps0_9, keep_main_arg2_hostOps0_8, keep_main_arg2_hostOps0_7, keep_main_arg2_hostOps0_6]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_11, keep_main_arg3_hostOps0_10, keep_main_arg3_hostOps0_9, keep_main_arg3_hostOps0_8, keep_main_arg3_hostOps0_7, keep_main_arg3_hostOps0_6]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg3 c k

end Cert.ReferenceIdeal.Value

end
-- ==== Proof.RefTail.lean ====
/-
  What the reference's operations after the loop make: the scanned states put batch first, the positions past the last
  boundary zeroed, and each output row read at its running count of boundaries, less one. The one term they make is large,
  so it is read off in named pieces. `run` is the whole program: the result is `plugged` of the mask and of the states the
  2048 trips leave, and the arguments are unchanged.
-/
module

public import proofs.«01_k».proof.Proof.RefRun

@[expose] public section

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-- `jnp.take_along_axis`'s index: a negative index counts from the end. -/
def wrapIdx (i : (⟨S8x2048x1024, .i32⟩ : BufTy).Contents (Elt F)) : (⟨S8x2048x1024x1, .i32⟩ : BufTy).Contents (Elt F) :=
  shapeCast S8x2048x1024x1 (select (cmpi .slt i (broadcastInDim S8x2048x1024 ![] bcast_S_S8x2048x1024 (constantI S_ 32 0#32))) (addi i (broadcastInDim S8x2048x1024 ![] bcast_S_S8x2048x1024 (constantI S_ 32 2048#32))) i) shapeCasts_S8x2048x1024_S8x2048x1024x1
/-- Whether `jnp.take_along_axis`'s index, wrapped, is inside the array. -/
def inBounds (w : (⟨S8x2048x1024x1, .i32⟩ : BufTy).Contents (Elt F)) : (⟨S8x2048x1024, .i1⟩ : BufTy).Contents (Elt F) :=
  Host.reduce IntOp.andi (andi (cmpi .sge w (broadcastInDim S8x2048x1024x1 ![] bcast_S_S8x2048x1024x1 (constantI S_ 32 0#32))) (cmpi .sle w (broadcastInDim S8x2048x1024x1 ![0, 1, 2, 3] bcast_S1x1x1x1_S8x2048x1024x1_0_1_2_3 (broadcastInDim S1x1x1x1 ![3] bcast_S1_S1x1x1x1_3 (constantI S1 32 2047#32))))) (constantI S_ 1 1#1) reducesTo_S8x2048x1024x1_S8x2048x1024_d3 h_S_
/-- `jnp.take_along_axis` along the positions: the entry each wrapped index names, NaN where the index is outside. -/
def takeAlong (x : (⟨S8x2048x1024, .f32⟩ : BufTy).Contents (Elt F)) (w : (⟨S8x2048x1024x1, .i32⟩ : BufTy).Contents (Elt F)) : (⟨S8x2048x1024, .f32⟩ : BufTy).Contents (Elt F) :=
  select (inBounds (F := F) w) (Host.gather gather_S8x2048x1024_S8x2048x1024x1_S8x2048x1024_n_1_02_02_1_3_111 x w) (broadcastInDim S8x2048x1024 ![] bcast_S_S8x2048x1024 (constant S_ .f32 0x7FC00000#32))
/-- Whether a position is below its row's number of boundaries. -/
def validMask (mask : (⟨S8x2048, .i1⟩ : BufTy).Contents (Elt F)) : (⟨S8x2048x1, .i1⟩ : BufTy).Contents (Elt F) :=
  broadcastInDim S8x2048x1 ![0, 1] bcast_S8x2048_S8x2048x1_0_1 (cmpi .slt (broadcastInDim S8x2048 ![0, 1] bcast_S1x2048_S8x2048_0_1 (broadcastInDim S1x2048 ![1] bcast_S2048_S1x2048_1 (iotaInDim S2048 32 0))) (broadcastInDim S8x2048 ![0, 1] bcast_S8x1_S8x2048_0_1 (broadcastInDim S8x1 ![0] bcast_S8_S8x1_0 (Host.reduce IntOp.addi (extui 32 mask natLt_1_32 : (⟨S8x2048, .i32⟩ : BufTy).Contents (Elt F)) (constantI S_ 32 0#32) reducesTo_S8x2048_S8_d1 h_S_))))
/-- The scanned states, batch first, with the positions past the last boundary zeroed. -/
def selected (v : (⟨S8x2048x1, .i1⟩ : BufTy).Contents (Elt F)) (x : (⟨S8x2048x1024, .f32⟩ : BufTy).Contents (Elt F)) : (⟨S8x2048x1024, .f32⟩ : BufTy).Contents (Elt F) :=
  select (broadcastInDim S8x2048x1024 ![0, 1, 2] bcast_S8x2048x1_S8x2048x1024_0_1_2 v) x (broadcastInDim S8x2048x1024 ![] bcast_S_S8x2048x1024 (constant S_ .f32 0x00000000#32))
/-- The running count of boundaries. -/
def counts (mask : (⟨S8x2048, .i1⟩ : BufTy).Contents (Elt F)) : (⟨S8x2048, .i32⟩ : BufTy).Contents (Elt F) :=
  Host.reduceWindow IntOp.addi ![1, 2048] ![1, 1] ![0, 2047] ![0, 0] (extui 32 mask natLt_1_32 : (⟨S8x2048, .i32⟩ : BufTy).Contents (Elt F)) (broadcastInDim S_ ![] bcast_S_S_ (constantI S_ 32 0#32)) reduceWindows_S8x2048_S8x2048_w1s1p0_0_w2048s1p2047_0 h_S_
/-- The position each output row reads: the running count less one, not below zero, the same on every channel. -/
def plugIdx (n : (⟨S8x2048, .i32⟩ : BufTy).Contents (Elt F)) : (⟨S8x2048x1024, .i32⟩ : BufTy).Contents (Elt F) :=
  broadcastInDim S8x2048x1024 ![0, 1, 2] bcast_S8x2048x1_S8x2048x1024_0_1_2 (broadcastInDim S8x2048x1 ![0, 1] bcast_S8x2048_S8x2048x1_0_1 (maxsi (subi n (broadcastInDim S8x2048 ![] bcast_S_S8x2048 (constantI S_ 32 1#32))) (broadcastInDim S8x2048 ![] bcast_S_S8x2048 (constantI S_ 32 0#32))))
/-- What the operations after the loop make of the mask and of the scanned states. -/
def plugged (mask : (⟨S8x2048, .i1⟩ : BufTy).Contents (Elt F)) (o : (⟨S2048x8x1024, .f32⟩ : BufTy).Contents (Elt F)) : (⟨S8x2048x1024, .f32⟩ : BufTy).Contents (Elt F) :=
  takeAlong (selected (validMask mask) (transpose S8x2048x1024 [1, 0, 2] o transposes_S2048x8x1024_S8x2048x1024_1_0_2)) (wrapIdx (F := F) (plugIdx (counts mask)))

/-- The last stretch's first part: the index, wrapped. -/
abbrev gatherA : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S8x2048x1024, .i32⟩) (broadcastInDim S8x2048x1024 ![] bcast_S_S8x2048x1024),
    StableHlo.TRef.binary (.of main_v36 : StableHlo.TRef sig ⟨S8x2048x1024, .i32⟩) (.of main_call8_v0 : StableHlo.TRef sig ⟨S8x2048x1024, .i32⟩) (.of main_call8_v1 : StableHlo.TRef sig ⟨S8x2048x1024, .i1⟩) (cmpi .slt),
    StableHlo.TRef.nullary (.of main_call8_c_0 : StableHlo.TRef sig ⟨S_, .i32⟩) (constantI S_ 32 2048#32),
    StableHlo.TRef.unary (.of main_call8_c_0 : StableHlo.TRef sig ⟨S_, .i32⟩) (.of main_call8_v2 : StableHlo.TRef sig ⟨S8x2048x1024, .i32⟩) (broadcastInDim S8x2048x1024 ![] bcast_S_S8x2048x1024),
    StableHlo.TRef.binary (.of main_v36 : StableHlo.TRef sig ⟨S8x2048x1024, .i32⟩) (.of main_call8_v2 : StableHlo.TRef sig ⟨S8x2048x1024, .i32⟩) (.of main_call8_v3 : StableHlo.TRef sig ⟨S8x2048x1024, .i32⟩) addi,
    StableHlo.TRef.ternary (.of main_call8_v1 : StableHlo.TRef sig ⟨S8x2048x1024, .i1⟩) (.of main_call8_v3 : StableHlo.TRef sig ⟨S8x2048x1024, .i32⟩) (.of main_v36 : StableHlo.TRef sig ⟨S8x2048x1024, .i32⟩) (.of main_call8_v4 : StableHlo.TRef sig ⟨S8x2048x1024, .i32⟩) select,
    StableHlo.TRef.reshape (.of main_call8_v4 : StableHlo.TRef sig ⟨S8x2048x1024, .i32⟩) (.of main_call8_v5 : StableHlo.TRef sig ⟨S8x2048x1024x1, .i32⟩) (rfl : (.i32 : EltTy) = .i32) shapeCasts_S8x2048x1024_S8x2048x1024x1 ]
/-- The last stretch's second part: whether the index is inside. -/
abbrev gatherB : List (HloOp τ sig (Elt F)) :=
  [ StableHlo.TRef.nullary (.of main_call8_c_1 : StableHlo.TRef sig ⟨S1, .i32⟩) (constantI S1 32 2047#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S8x2048x1024x1, .i32⟩) (broadcastInDim S8x2048x1024x1 ![] bcast_S_S8x2048x1024x1),
    StableHlo.TRef.binary (.of main_call8_v5 : StableHlo.TRef sig ⟨S8x2048x1024x1, .i32⟩) (.of main_call8_v6 : StableHlo.TRef sig ⟨S8x2048x1024x1, .i32⟩) (.of main_call8_v7 : StableHlo.TRef sig ⟨S8x2048x1024x1, .i1⟩) (cmpi .sge),
    StableHlo.TRef.unary (.of main_call8_c_1 : StableHlo.TRef sig ⟨S1, .i32⟩) (.of main_call8_v8 : StableHlo.TRef sig ⟨S1x1x1x1, .i32⟩) (broadcastInDim S1x1x1x1 ![3] bcast_S1_S1x1x1x1_3),
    StableHlo.TRef.unary (.of main_call8_v8 : StableHlo.TRef sig ⟨S1x1x1x1, .i32⟩) (.of main_call8_v9 : StableHlo.TRef sig ⟨S8x2048x1024x1, .i32⟩) (broadcastInDim S8x2048x1024x1 ![0, 1, 2, 3] bcast_S1x1x1x1_S8x2048x1024x1_0_1_2_3),
    StableHlo.TRef.binary (.of main_call8_v5 : StableHlo.TRef sig ⟨S8x2048x1024x1, .i32⟩) (.of main_call8_v9 : StableHlo.TRef sig ⟨S8x2048x1024x1, .i32⟩) (.of main_call8_v10 : StableHlo.TRef sig ⟨S8x2048x1024x1, .i1⟩) (cmpi .sle),
    StableHlo.TRef.binary (.of main_call8_v7 : StableHlo.TRef sig ⟨S8x2048x1024x1, .i1⟩) (.of main_call8_v10 : StableHlo.TRef sig ⟨S8x2048x1024x1, .i1⟩) (.of main_call8_v11 : StableHlo.TRef sig ⟨S8x2048x1024x1, .i1⟩) andi,
    StableHlo.TRef.nullary (.of main_call8_c_3 : StableHlo.TRef sig ⟨S_, .i1⟩) (constantI S_ 1 1#1),
    StableHlo.TRef.binary (.of main_call8_v11 : StableHlo.TRef sig ⟨S8x2048x1024x1, .i1⟩) (.of main_call8_c_3 : StableHlo.TRef sig ⟨S_, .i1⟩) (.of main_call8_v12 : StableHlo.TRef sig ⟨S8x2048x1024, .i1⟩) (fun x v => Host.reduce IntOp.andi x v reducesTo_S8x2048x1024x1_S8x2048x1024_d3 h_S_) ]
/-- The last stretch's third part: the entry the index names, or NaN. -/
abbrev gatherC : List (HloOp τ sig (Elt F)) :=
  [ StableHlo.TRef.binary (.of main_v28 : StableHlo.TRef sig ⟨S8x2048x1024, .f32⟩) (.of main_call8_v5 : StableHlo.TRef sig ⟨S8x2048x1024x1, .i32⟩) (.of main_call8_v13 : StableHlo.TRef sig ⟨S8x2048x1024, .f32⟩) (fun x i => Host.gather gather_S8x2048x1024_S8x2048x1024x1_S8x2048x1024_n_1_02_02_1_3_111 x i),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v14 : StableHlo.TRef sig ⟨S8x2048x1024, .f32⟩) (broadcastInDim S8x2048x1024 ![] bcast_S_S8x2048x1024),
    StableHlo.TRef.ternary (.of main_call8_v12 : StableHlo.TRef sig ⟨S8x2048x1024, .i1⟩) (.of main_call8_v13 : StableHlo.TRef sig ⟨S8x2048x1024, .f32⟩) (.of main_call8_v14 : StableHlo.TRef sig ⟨S8x2048x1024, .f32⟩) (.of main_v37 : StableHlo.TRef sig ⟨S8x2048x1024, .f32⟩) select ]

section Tail
variable (V0 : Valuation τ sig (Elt F))

theorem last_split : after hostOps0_11 V0 = after gatherC (after gatherB (after gatherA V0)) := rfl

theorem tail_v5 : after gatherA V0 (no_index (Proc.devRef .tc main_call8_v5)) = wrapIdx (F := F) (V0 (Proc.devRef .tc main_v36)) := by
  unfold wrapIdx
  after_results_simp_entrywise
  simp only [StableHlo.TRef.toBuf, StableHlo.TRef.ofBuf, cast_eq]
  rfl
theorem tail_v12 : after gatherB V0 (no_index (Proc.devRef .tc main_call8_v12)) = inBounds (F := F) (V0 (Proc.devRef .tc main_call8_v5)) := by
  unfold inBounds
  after_results_simp_entrywise
  simp only [StableHlo.TRef.toBuf, StableHlo.TRef.ofBuf, cast_eq]
theorem tail_v37 : after gatherC V0 (no_index (Proc.devRef .tc main_v37)) = select (V0 (Proc.devRef .tc main_call8_v12)) (Host.gather gather_S8x2048x1024_S8x2048x1024x1_S8x2048x1024_n_1_02_02_1_3_111 (V0 (Proc.devRef .tc main_v28)) (V0 (Proc.devRef .tc main_call8_v5))) (broadcastInDim S8x2048x1024 ![] bcast_S_S8x2048x1024 (constant S_ .f32 0x7FC00000#32)) := by
  after_results_simp_entrywise
  simp only [StableHlo.TRef.toBuf, StableHlo.TRef.ofBuf, cast_eq]
theorem keepA : after gatherA V0 (no_index (Proc.devRef .tc main_v28)) = V0 (Proc.devRef .tc main_v28) := by
  after_results_entrywise []
theorem keepB : after gatherB V0 (no_index (Proc.devRef .tc main_v28)) = V0 (Proc.devRef .tc main_v28) := by
  after_results_entrywise []
theorem keepB5 : after gatherB V0 (no_index (Proc.devRef .tc main_call8_v5)) = V0 (Proc.devRef .tc main_call8_v5) := by
  after_results_entrywise []
theorem tail_v36 : after hostOps0_10 V0 (no_index (Proc.devRef .tc main_v36)) = plugIdx (V0 (Proc.devRef .tc main_v30)) := by
  after_results_entrywise []
theorem tail_v30 : after hostOps0_9 (after hostOps0_8 V0) (no_index (Proc.devRef .tc main_v30)) = counts (V0 (Proc.devRef .tc main_arg1)) := by
  unfold counts
  after_results_simp_entrywise
  simp only [StableHlo.TRef.toBuf, StableHlo.TRef.ofBuf, cast_eq]
theorem tail_v28 : after hostOps0_7 (after hostOps0_6 V0) (no_index (Proc.devRef .tc main_v28)) = selected (validMask (V0 (Proc.devRef .tc main_arg1))) (transpose S8x2048x1024 [1, 0, 2] (V0 (Proc.devRef .tc main_v17_4)) transposes_S2048x8x1024_S8x2048x1024_1_0_2) := by
  unfold selected validMask
  after_results_simp_entrywise
  simp only [StableHlo.TRef.toBuf, StableHlo.TRef.ofBuf, cast_eq, id_eq]
/-- The selected states pass through the stretches that make the index. -/
theorem tail_keep_v28 : after hostOps0_10 (after hostOps0_9 (after hostOps0_8 V0)) (no_index (Proc.devRef .tc main_v28)) = V0 (Proc.devRef .tc main_v28) := by
  after_results_entrywise []
end Tail

/-- The result, of the contents the operations after the loop start from. -/
theorem post_main_v37 (V0 : Valuation τ sig (Elt F)) : afterL postI V0 (Proc.devRef .tc main_v37) = plugged (V0 (Proc.devRef .tc main_arg1)) (V0 (Proc.devRef .tc main_v17_4)) := by
  simp only [postI, afterL_cons, afterL_nil]
  rw [last_split, tail_v37, tail_v12, keepB, keepA, keepB5, tail_v5, tail_keep_v28, tail_v28, tail_v36, tail_v30, keep_main_arg1_hostOps0_7, keep_main_arg1_hostOps0_6]
  rfl

variable (m : (ℓ : Loc nD τ sig) → Buf (Elt F) ℓ) (ρ : Dev nD → PrngReg)

/-- THE RUN: on every device, for any float values, from any memory with zero counters, every weakly fair execution
    of @main terminates with each result at its component of `STEP` iterated 2048 times on the loop's entry (`step_‹buffer›`
    says what one trip makes of each carried buffer), and every argument unchanged. -/
theorem run : θ_run (defs (F := F)) (onTc (τ := τ) (main (F := F))) ⟨m, fun _ => 0, ρ⟩ fun r => ∀ c : Dev nD,
      r.2.mem ((c.tc : Thread nD τ).loc main_v37) = plugged ((STEP^[2048] (entryContents preI m c)) (Proc.devRef .tc main_arg1)) ((STEP^[2048] (entryContents preI m c)) (Proc.devRef .tc main_v17_4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v37 rfl).trans ((post_main_v37 _).trans (congrArg₂ plugged ((keep_main_arg1_condOps _).trans ((atK_main_arg1 m c 2048).trans (iter_main_arg1 m c 2048).symm)) ((cond_keeps _ main_v17_4 (by decide)).trans (atK_agree m c 2048 main_v17_4 (by decide))))),
      (h c main_arg0 rfl).trans ((post_keeps_main_arg0 _).trans ((keep_main_arg0_condOps _).trans (atK_main_arg0 m c 2048))),
      (h c main_arg1 rfl).trans ((post_keeps_main_arg1 _).trans ((keep_main_arg1_condOps _).trans (atK_main_arg1 m c 2048))),
      (h c main_arg2 rfl).trans ((post_keeps_main_arg2 _).trans ((keep_main_arg2_condOps _).trans (atK_main_arg2 m c 2048))),
      (h c main_arg3 rfl).trans ((post_keeps_main_arg3 _).trans ((keep_main_arg3_condOps _).trans (atK_main_arg3 m c 2048)))⟩) (run_fold m ρ)

end Cert.ReferenceIdeal.Value

end
-- ==== Proof.RefHead.lean ====
/-
  What the reference computes before the loop: the probabilities clipped, the positions' sort keys, the order that sorts
  them, and the probabilities read in that order. Read off in named pieces, like what comes after the loop (RefTail.lean).
-/
module

public import proofs.«01_k».proof.Proof.RefTail

@[expose] public section

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-- The boundary probabilities: the last channel, clipped to `[1e-4, 1 - 1e-4]`. -/
def clipped (b : (⟨S8x2048x2, .f32⟩ : BufTy).Contents (Elt F)) : (⟨S8x2048, .f32⟩ : BufTy).Contents (Elt F) :=
  minimumf (broadcastInDim S8x2048 ![] bcast_S_S8x2048 (constant S_ .f32 0x3F7FF972#32)) (maximumf (broadcastInDim S8x2048 ![] bcast_S_S8x2048 (constant S_ .f32 0x38D1B717#32)) (shapeCast S8x2048 (extractStridedSlice S8x2048x1 ![0, 0, 1] b slices_S8x2048x2_S8x2048x1_0_0_1) shapeCasts_S8x2048x1_S8x2048))
/-- The sort key of a position: its number, plus the row's length where it is not a boundary. -/
def tokenIdx (mask : (⟨S8x2048, .i1⟩ : BufTy).Contents (Elt F)) : (⟨S8x2048, .i32⟩ : BufTy).Contents (Elt F) :=
  addi (broadcastInDim S8x2048 ![0, 1] bcast_S1x2048_S8x2048_0_1 (broadcastInDim S1x2048 ![1] bcast_S2048_S1x2048_1 (iotaInDim S2048 32 0))) (muli (extui 32 (noti mask : (⟨S8x2048, .i1⟩ : BufTy).Contents (Elt F)) natLt_1_32 : (⟨S8x2048, .i32⟩ : BufTy).Contents (Elt F)) (broadcastInDim S8x2048 ![] bcast_S_S8x2048 (constantI S_ 32 2048#32)))
/-- The positions in the order that sorts the keys. -/
def order (k : (⟨S8x2048, .i32⟩ : BufTy).Contents (Elt F)) : (⟨S8x2048, .i32⟩ : BufTy).Contents (Elt F) :=
  (Host.sort2 S8x2048 1 comparator_i32_i32_d1 k (iotaInDim S8x2048 32 1)).2
/-- `jnp.take_along_axis`'s index on the probabilities: a negative index counts from the end. -/
def wrapPos (i : (⟨S8x2048, .i32⟩ : BufTy).Contents (Elt F)) : (⟨S8x2048x1, .i32⟩ : BufTy).Contents (Elt F) :=
  shapeCast S8x2048x1 (select (cmpi .slt i (broadcastInDim S8x2048 ![] bcast_S_S8x2048 (constantI S_ 32 0#32))) (addi i (broadcastInDim S8x2048 ![] bcast_S_S8x2048 (constantI S_ 32 2048#32))) i) shapeCasts_S8x2048_S8x2048x1
/-- Whether that index is inside the row. -/
def posInBounds (w : (⟨S8x2048x1, .i32⟩ : BufTy).Contents (Elt F)) : (⟨S8x2048, .i1⟩ : BufTy).Contents (Elt F) :=
  Host.reduce IntOp.andi (andi (cmpi .sge w (broadcastInDim S8x2048x1 ![] bcast_S_S8x2048x1 (constantI S_ 32 0#32))) (cmpi .sle w (broadcastInDim S8x2048x1 ![0, 1, 2] bcast_S1x1x1_S8x2048x1_0_1_2 (broadcastInDim S1x1x1 ![2] bcast_S1_S1x1x1_2 (constantI S1 32 2047#32))))) (constantI S_ 1 1#1) reducesTo_S8x2048x1_S8x2048_d2 h_S_
/-- `jnp.take_along_axis` on the probabilities: the entry each wrapped index names, NaN where it is outside. -/
def takePos (x : (⟨S8x2048, .f32⟩ : BufTy).Contents (Elt F)) (w : (⟨S8x2048x1, .i32⟩ : BufTy).Contents (Elt F)) : (⟨S8x2048, .f32⟩ : BufTy).Contents (Elt F) :=
  select (posInBounds (F := F) w) (Host.gather gather_S8x2048_S8x2048x1_S8x2048_n_1_0_0_1_2_11 x w) (broadcastInDim S8x2048 ![] bcast_S_S8x2048 (constant S_ .f32 0x7FC00000#32))
/-- The clipped probabilities in the sorted order. -/
def sortedProbs (mask : (⟨S8x2048, .i1⟩ : BufTy).Contents (Elt F)) (b : (⟨S8x2048x2, .f32⟩ : BufTy).Contents (Elt F)) : (⟨S8x2048, .f32⟩ : BufTy).Contents (Elt F) :=
  takePos (clipped b) (wrapPos (F := F) (order (F := F) (tokenIdx (F := F) mask)))

/-- The reading stretch's first part: the index, wrapped. -/
abbrev readA : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8x2048, .i32⟩) (broadcastInDim S8x2048 ![] bcast_S_S8x2048),
    StableHlo.TRef.binary (.of main_v11 : StableHlo.TRef sig ⟨S8x2048, .i32⟩) (.of main_call2_v0 : StableHlo.TRef sig ⟨S8x2048, .i32⟩) (.of main_call2_v1 : StableHlo.TRef sig ⟨S8x2048, .i1⟩) (cmpi .slt),
    StableHlo.TRef.nullary (.of main_call2_c_0 : StableHlo.TRef sig ⟨S_, .i32⟩) (constantI S_ 32 2048#32),
    StableHlo.TRef.unary (.of main_call2_c_0 : StableHlo.TRef sig ⟨S_, .i32⟩) (.of main_call2_v2 : StableHlo.TRef sig ⟨S8x2048, .i32⟩) (broadcastInDim S8x2048 ![] bcast_S_S8x2048),
    StableHlo.TRef.binary (.of main_v11 : StableHlo.TRef sig ⟨S8x2048, .i32⟩) (.of main_call2_v2 : StableHlo.TRef sig ⟨S8x2048, .i32⟩) (.of main_call2_v3 : StableHlo.TRef sig ⟨S8x2048, .i32⟩) addi,
    StableHlo.TRef.ternary (.of main_call2_v1 : StableHlo.TRef sig ⟨S8x2048, .i1⟩) (.of main_call2_v3 : StableHlo.TRef sig ⟨S8x2048, .i32⟩) (.of main_v11 : StableHlo.TRef sig ⟨S8x2048, .i32⟩) (.of main_call2_v4 : StableHlo.TRef sig ⟨S8x2048, .i32⟩) select,
    StableHlo.TRef.reshape (.of main_call2_v4 : StableHlo.TRef sig ⟨S8x2048, .i32⟩) (.of main_call2_v5 : StableHlo.TRef sig ⟨S8x2048x1, .i32⟩) (rfl : (.i32 : EltTy) = .i32) shapeCasts_S8x2048_S8x2048x1 ]
/-- The reading stretch's second part: whether the index is inside. -/
abbrev readB : List (HloOp τ sig (Elt F)) :=
  [ StableHlo.TRef.nullary (.of main_call2_c_1 : StableHlo.TRef sig ⟨S1, .i32⟩) (constantI S1 32 2047#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8x2048x1, .i32⟩) (broadcastInDim S8x2048x1 ![] bcast_S_S8x2048x1),
    StableHlo.TRef.binary (.of main_call2_v5 : StableHlo.TRef sig ⟨S8x2048x1, .i32⟩) (.of main_call2_v6 : StableHlo.TRef sig ⟨S8x2048x1, .i32⟩) (.of main_call2_v7 : StableHlo.TRef sig ⟨S8x2048x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S8x2048x1, .i32⟩) (broadcastInDim S8x2048x1 ![0, 1, 2] bcast_S1x1x1_S8x2048x1_0_1_2),
    StableHlo.TRef.binary (.of main_call2_v5 : StableHlo.TRef sig ⟨S8x2048x1, .i32⟩) (.of main_call2_v9 : StableHlo.TRef sig ⟨S8x2048x1, .i32⟩) (.of main_call2_v10 : StableHlo.TRef sig ⟨S8x2048x1, .i1⟩) (cmpi .sle),
    StableHlo.TRef.binary (.of main_call2_v7 : StableHlo.TRef sig ⟨S8x2048x1, .i1⟩) (.of main_call2_v10 : StableHlo.TRef sig ⟨S8x2048x1, .i1⟩) (.of main_call2_v11 : StableHlo.TRef sig ⟨S8x2048x1, .i1⟩) andi,
    StableHlo.TRef.nullary (.of main_call2_c_3 : StableHlo.TRef sig ⟨S_, .i1⟩) (constantI S_ 1 1#1),
    StableHlo.TRef.binary (.of main_call2_v11 : StableHlo.TRef sig ⟨S8x2048x1, .i1⟩) (.of main_call2_c_3 : StableHlo.TRef sig ⟨S_, .i1⟩) (.of main_call2_v12 : StableHlo.TRef sig ⟨S8x2048, .i1⟩) (fun x v => Host.reduce IntOp.andi x v reducesTo_S8x2048x1_S8x2048_d2 h_S_) ]
/-- The reading stretch's third part: the entry the index names, or NaN. -/
abbrev readC : List (HloOp τ sig (Elt F)) :=
  [ StableHlo.TRef.binary (.of main_v2 : StableHlo.TRef sig ⟨S8x2048, .f32⟩) (.of main_call2_v5 : StableHlo.TRef sig ⟨S8x2048x1, .i32⟩) (.of main_call2_v13 : StableHlo.TRef sig ⟨S8x2048, .f32⟩) (fun x i => Host.gather gather_S8x2048_S8x2048x1_S8x2048_n_1_0_0_1_2_11 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8x2048, .f32⟩) (broadcastInDim S8x2048 ![] bcast_S_S8x2048),
    StableHlo.TRef.ternary (.of main_call2_v12 : StableHlo.TRef sig ⟨S8x2048, .i1⟩) (.of main_call2_v13 : StableHlo.TRef sig ⟨S8x2048, .f32⟩) (.of main_call2_v14 : StableHlo.TRef sig ⟨S8x2048, .f32⟩) (.of main_v12 : StableHlo.TRef sig ⟨S8x2048, .f32⟩) select ]

section Head
variable (V0 : Valuation τ sig (Elt F))

theorem read_split : after hostOps0_4 V0 = after readC (after readB (after readA V0)) := rfl

theorem head_v2 : after hostOps0_1 (after hostOps0 V0) (no_index (Proc.devRef .tc main_v2)) = clipped (V0 (Proc.devRef .tc main_arg2)) := by
  unfold clipped
  after_results_simp_entrywise
  simp only [StableHlo.TRef.toBuf, StableHlo.TRef.ofBuf, cast_eq, id_eq]
  rfl
theorem head_v10 : after hostOps0_2 V0 (no_index (Proc.devRef .tc main_v10)) = tokenIdx (F := F) (V0 (Proc.devRef .tc main_arg1)) := by
  after_results_entrywise []
theorem head_v11 : after hostOps0_3 V0 (no_index (Proc.devRef .tc main_v11)) = order (F := F) (V0 (Proc.devRef .tc main_v10)) := by
  unfold order
  after_results_simp_entrywise
  simp only [StableHlo.TRef.toBuf, StableHlo.TRef.ofBuf, cast_eq, id_eq]

theorem head_v5 : after readA V0 (no_index (Proc.devRef .tc main_call2_v5)) = wrapPos (F := F) (V0 (Proc.devRef .tc main_v11)) := by
  unfold wrapPos
  after_results_simp_entrywise
  simp only [StableHlo.TRef.toBuf, StableHlo.TRef.ofBuf, cast_eq, id_eq]
  rfl
theorem head_v12b : after readB V0 (no_index (Proc.devRef .tc main_call2_v12)) = posInBounds (F := F) (V0 (Proc.devRef .tc main_call2_v5)) := by
  unfold posInBounds
  after_results_simp_entrywise
  simp only [StableHlo.TRef.toBuf, StableHlo.TRef.ofBuf, cast_eq, id_eq]

theorem head_v12 : after readC V0 (no_index (Proc.devRef .tc main_v12)) = select (V0 (Proc.devRef .tc main_call2_v12)) (Host.gather gather_S8x2048_S8x2048x1_S8x2048_n_1_0_0_1_2_11 (V0 (Proc.devRef .tc main_v2)) (V0 (Proc.devRef .tc main_call2_v5))) (broadcastInDim S8x2048 ![] bcast_S_S8x2048 (constant S_ .f32 0x7FC00000#32)) := by
  after_results_simp_entrywise
  simp only [StableHlo.TRef.toBuf, StableHlo.TRef.ofBuf, cast_eq, id_eq]

theorem keep_readA : after readA V0 (no_index (Proc.devRef .tc main_v2)) = V0 (Proc.devRef .tc main_v2) := by
  after_results_entrywise []
theorem keep_readB : after readB V0 (no_index (Proc.devRef .tc main_v2)) = V0 (Proc.devRef .tc main_v2) := by
  after_results_entrywise []
theorem keep_readB5 : after readB V0 (no_index (Proc.devRef .tc main_call2_v5)) = V0 (Proc.devRef .tc main_call2_v5) := by
  after_results_entrywise []
theorem keep_v2 : after hostOps0_3 (after hostOps0_2 V0) (no_index (Proc.devRef .tc main_v2)) = V0 (Proc.devRef .tc main_v2) := by
  after_results_entrywise []

/-- Before the last stretch the probabilities are in the sorted order. -/
theorem head_probs : after hostOps0_4 (after hostOps0_3 (after hostOps0_2 (after hostOps0_1 (after hostOps0 V0)))) (no_index (Proc.devRef .tc main_v12)) = sortedProbs (V0 (Proc.devRef .tc main_arg1)) (V0 (Proc.devRef .tc main_arg2)) := by
  rw [read_split, head_v12, head_v12b, keep_readB, keep_readA, keep_readB5, head_v5, keep_v2, head_v2, head_v11, head_v10, keep_main_arg1_hostOps0_1, keep_main_arg1_hostOps0]
  rfl

/-! The last stretch sets the loop's operands up. -/

theorem entry_h : after hostOps0_5 V0 (no_index (Proc.devRef .tc main_v17_3)) = broadcastInDim S8x1024 ![] bcast_S_S8x1024 (constant S_ .f32 0x00000000#32) := by
  after_results_entrywise []
theorem entry_out : after hostOps0_5 V0 (no_index (Proc.devRef .tc main_v17_4)) = broadcastInDim S2048x8x1024 ![] bcast_S_S2048x8x1024 (constant S_ .f32 0x00000000#32) := by
  after_results_entrywise []
theorem entry_x : after hostOps0_5 V0 (no_index (Proc.devRef .tc main_v17_0)) = transpose S2048x8x1024 [1, 0, 2] (V0 (Proc.devRef .tc main_arg0)) transposes_S8x2048x1024_S2048x8x1024_1_0_2 := by
  after_results_entrywise []
theorem entry_p : after hostOps0_5 V0 (no_index (Proc.devRef .tc main_v17_1)) = transpose S2048x8 [1, 0] (V0 (Proc.devRef .tc main_v12)) transposes_S8x2048_S2048x8_1_0 := by
  after_results_entrywise []
end Head

end Cert.ReferenceIdeal.Value

end
-- ==== Proof.RefOrder.lean ====
/-
  What the reference computes before the loop where every position is a boundary: the sort keys are the positions
  themselves, so the order that sorts them leaves each position where it is, every index is inside its row, and the
  probabilities read in that order are the clipped probabilities.
-/
module

public import proofs.«01_k».proof.Proof.RefHead
public import Idealize.ShloMosaic.Lib.SortPrefix
public import Idealize.ShloMosaic.Lib.SortFacts
public import Idealize.ShloMosaic.Lib.DynamicIndex
public import Idealize.ShloMosaic.Lib.Pointwise

@[expose] public section

set_option maxRecDepth 16384

noncomputable section

namespace Cert.ReferenceIdeal.Value

open Cert.ReferenceIdeal Cert.ReferenceIdeal.Gen
open Idealize.ShloMosaic

/-! ## Words of positions, and indices inside their row -/

/-- The word of a number below `2 ^ 31` is not below zero, read signed. -/
theorem word_not_neg (n : ℕ) (hn : n < 2 ^ 31) : IntOp.cmpi .slt (BitVec.ofNat 32 n) 0#32 = 0#1 := by
  have h : (BitVec.ofNat 32 n).slt 0#32 = false := by
    simp only [BitVec.slt, toInt_ofNat_of_lt hn, decide_eq_false_iff_not]
    simp
  simp only [IntOp.cmpi, h]
  rfl

/-- The word of a number below `2 ^ 31` is at least zero, read signed. -/
theorem word_nonneg (n : ℕ) (hn : n < 2 ^ 31) : IntOp.cmpi .sge (BitVec.ofNat 32 n) 0#32 = 1#1 := by
  have h : (0#32).sle (BitVec.ofNat 32 n) = true := by
    simp only [BitVec.sle, toInt_ofNat_of_lt hn, decide_eq_true_eq]
    simp
  simp only [IntOp.cmpi, h]
  rfl

/-- The word of a position of a row is at most the last position's, read signed. -/
theorem word_le_last (n : ℕ) (hn : n < 2048) : IntOp.cmpi .sle (BitVec.ofNat 32 n) 2047#32 = 1#1 := by
  have e : (2047#32).toInt = 2047 := by decide
  have h : (BitVec.ofNat 32 n).sle 2047#32 = true := by
    simp only [BitVec.sle, toInt_ofNat_of_lt (show n < 2 ^ 31 by omega), e, decide_eq_true_eq]
    omega
  simp only [IntOp.cmpi, h]
  rfl

/-- A conjunction of bits that are all set, from a set bit, is set. -/
theorem all_set {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize (List.finRange s.numel).filter (fun n => h.drop (s.rowMajor.symm n) = j) = l
  induction l with
  | nil => rfl
  | cons a l ih => rw [List.foldl_cons, hx]; exact ih

/-! ## The sort keys and the order -/

/-- Where every position is a boundary the sort key of position `n` is `n`. -/
theorem tokenIdx_full (b : Fin 8) (n : Fin 2048) :
    tokenIdx (F := Ideal) (fun _ => 1#1) (ix2 b n) = BitVec.ofNat 32 n.val := by
  unfold tokenIdx
  pointwise []
  have e : IntOp.muli (BitVec.setWidth 32 (~~~1#1)) 2048#32 = 0#32 := by decide
  rw [e]
  exact BitVec.add_zero _

/-- Position `k`'s key, its number, compares signed as the number does. -/
theorem key_lt (k k' : Fin 2048) :
    (IntOp.cmpi .slt (BitVec.ofNat 32 k.val) (BitVec.ofNat 32 k'.val) == 1#1) = decide (k < k') := by
  simp only [IntOp.cmpi, BitVec.slt, toInt_ofNat_of_lt (show k.val < 2 ^ 31 by omega),
    toInt_ofNat_of_lt (show k'.val < 2 ^ 31 by omega), Nat.cast_lt, Fin.val_fin_lt]
  by_cases h : k < k'
  · simp [h]
  · simp [h]

/-- Positions sorted by their numbers stay where they are. -/
theorem sortedFrom_lt (k : Fin 2048) : sortedFrom (fun a b : Fin 2048 => decide (a < b)) k = k := by
  have hB : StrictTotalBefore (fun a b : Fin 2048 => decide (a < b)) :=
    { irrefl := fun a => by simp
      trans := fun a b c h h' => by simp only [decide_eq_true_eq] at *; exact lt_trans h h'
      total := fun a b h => by simp only [decide_eq_true_eq]; exact lt_or_gt_of_ne h }
  exact hB.sortedFrom_eq_of_prefix (le_refl 2048) id Function.injective_id
    (fun i j hij => by simp only [id, decide_eq_false_iff_not, not_lt]; exact le_of_lt hij)
    (fun i p hp => absurd rfl (hp p)) k

/-- Keys that are the positions' numbers sort to the positions in order. -/
theorem order_iota (k : IVec S8x2048 32) (hk : ∀ (b : Fin 8) (n : Fin 2048), k (ix2 b n) = BitVec.ofNat 32 n.val)
    (b : Fin 8) (n : Fin 2048) : order (F := Ideal) k (ix2 b n) = BitVec.ofNat 32 n.val := by
  have along : ∀ n' : Fin 2048, (ix2 b n : S8x2048.Idx).along (1 : Fin 2) n' = ix2 b n' := fun n' => by
    funext a
    match a with
    | ⟨0, _⟩ => rfl
    | ⟨1, _⟩ => rfl
  have key : (fun a a' : Fin 2048 => comparator_i32_i32_d1
      (k ((ix2 b n : S8x2048.Idx).along (1 : Fin 2) a), iotaInDim S8x2048 32 1 ((ix2 b n : S8x2048.Idx).along (1 : Fin 2) a))
      (k ((ix2 b n : S8x2048.Idx).along (1 : Fin 2) a'), iotaInDim S8x2048 32 1 ((ix2 b n : S8x2048.Idx).along (1 : Fin 2) a')) == 1#1)
        = fun a a' : Fin 2048 => decide (a < a') := by
    funext a a'
    rw [along, along]
    unfold comparator_i32_i32_d1
    simp only [hk]
    exact key_lt a a'
  unfold order Host.sort2
  rw [dif_pos (show 1 < S8x2048.rank by decide)]
  refine (congrArg (fun q : Fin 2048 => iotaInDim S8x2048 32 1 ((ix2 b n : S8x2048.Idx).along (1 : Fin 2) q))
    ((congrArg (fun B => sortedFrom (n := 2048) B n) key).trans (sortedFrom_lt n))).trans ?_
  show iotaInDim S8x2048 32 1 ((ix2 b n : S8x2048.Idx).along (1 : Fin 2) n) = _
  rw [along]
  rfl

/-! ## The probabilities read in that order -/

/-- An index that is a position of its row is not changed by the wrap. -/
theorem wrapPos_iota (i : IVec S8x2048 32) (hi : ∀ (b : Fin 8) (n : Fin 2048), i (ix2 b n) = BitVec.ofNat 32 n.val)
    (b : Fin 8) (n : Fin 2048) (z : Fin 1) : wrapPos (F := Ideal) i (ix3 b n z) = BitVec.ofNat 32 n.val := by
  unfold wrapPos
  pointwise []
  rw [hi, word_not_neg n.val (by omega)]
  rfl

/-- Indices that are positions of their rows are inside them. -/
theorem posInBounds_iota (w : IVec S8x2048x1 32)
    (hw : ∀ (b : Fin 8) (n : Fin 2048) (z : Fin 1), w (ix3 b n z) = BitVec.ofNat 32 n.val) (j : S8x2048.Idx) :
    posInBounds (F := Ideal) w j = 1#1 := by
  unfold posInBounds
  refine all_set _ _ _ _ (fun i => ?_) (fun _ => rfl) j
  idx_vars i
  pointwise []
  rw [hw, word_nonneg _ (by omega), word_le_last _ (by omega)]
  rfl

/-- The batched gather along the rows, at the positions in order, is the array. -/
theorem gatherPos_iota (x : Vec Ideal S8x2048 .f32) (w : IVec S8x2048x1 32)
    (hw : ∀ (b : Fin 8) (n : Fin 2048) (z : Fin 1), w (ix3 b n z) = BitVec.ofNat 32 n.val) (b : Fin 8) (n : Fin 2048) :
    Host.gather gather_S8x2048_S8x2048x1_S8x2048_n_1_0_0_1_2_11 x w (ix2 b n) = x (ix2 b n) := by
  unfold Host.gather
  congr 1
  funext a
  refine Fin.ext ?_
  show (gather_S8x2048_S8x2048x1_S8x2048_n_1_0_0_1_2_11).start (ix2 b n) w a
      + (gather_S8x2048_S8x2048x1_S8x2048_n_1_0_0_1_2_11).batchCoord (ix2 b n) a
      + (gather_S8x2048_S8x2048x1_S8x2048_n_1_0_0_1_2_11).offCoord (ix2 b n) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S8x2048_S8x2048x1_S8x2048_n_1_0_0_1_2_11).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S8x2048_S8x2048x1_S8x2048_n_1_0_0_1_2_11).startIndexMap from List.mem_singleton.mpr rfl)]
    have hsi : (gather_S8x2048_S8x2048x1_S8x2048_n_1_0_0_1_2_11).siIdx (ix2 b n)
        ⟨List.idxOf (1 : Fin 2) (gather_S8x2048_S8x2048x1_S8x2048_n_1_0_0_1_2_11).startIndexMap,
          List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi, hw, toInt_ofNat_of_lt (show n.val < 2 ^ 31 by omega)]
    show min n.val (2048 - 1) = n.val
    omega

/-- Where every position is a boundary the probabilities the loop reads are the clipped probabilities, unmoved. -/
theorem sortedProbs_full (P : Vec Ideal S8x2048x2 .f32) (b : Fin 8) (n : Fin 2048) :
    sortedProbs (F := Ideal) (fun _ => 1#1) P (ix2 b n)
      = min (Ideal.ofBits .f32 0x3F7FF972#32) (max (Ideal.ofBits .f32 0x38D1B717#32) (P (ix3 b n (1 : Fin 2)))) := by
  have hw := wrapPos_iota _ (order_iota _ tokenIdx_full)
  unfold sortedProbs takePos
  show Scalar.select _ _ _ = _
  rw [posInBounds_iota _ hw, Scalar.select, if_pos (by rfl), gatherPos_iota _ _ hw]
  unfold clipped
  pointwise []

end Cert.ReferenceIdeal.Value

end

end
-- ==== Proof.RefPlug.lean ====
/-
  What the reference computes after the loop where every position is a boundary: each row counts 2048 boundaries, so every
  position is valid; the running count at a position, less one, is the position, so each output row reads the scanned state
  of its own position.
-/
module

public import proofs.«01_k».proof.Proof.RefOrder
public import Idealize.ShloMosaic.Lib.Routing.Ops

@[expose] public section

set_option maxRecDepth 16384

noncomputable section

namespace Cert.ReferenceIdeal.Value

open Cert.ReferenceIdeal Cert.ReferenceIdeal.Gen
open Idealize.ShloMosaic

/-! ## The counts -/

/-- A row of 2048 boundaries counts 2048. -/
theorem num_tokens_full (b : Fin 8) :
    Host.reduce IntOp.addi (extui 32 (fun _ => 1#1 : IVec S8x2048 1) natLt_1_32) (constantI S_ 32 0#32)
      reducesTo_S8x2048_S8_d1 h_S_ (ix1 b) = 2048#32 := by
  apply BitVec.eq_of_toNat_eq
  rw [StableHlo.Predicate.toNat_reduce_count_cols (by norm_num) (fun _ => 1#1) natLt_1_32 reducesTo_S8x2048_S8_d1 h_S_ (ix1 b)]
  simp

/-- Every position is valid. -/
theorem validMask_full (b : Fin 8) (n : Fin 2048) (z : Fin 1) :
    validMask (F := Ideal) (fun _ => 1#1) (ix3 b n z) = 1#1 := by
  have e : (2048#32).toInt = 2048 := by decide
  have h : (BitVec.ofNat 32 n.val).slt 2048#32 = true := by
    simp only [BitVec.slt, toInt_ofNat_of_lt (show n.val < 2 ^ 31 by omega), e, decide_eq_true_eq]
    omega
  have hc : Host.reduce IntOp.addi (extui 32 (fun _ => 1#1 : IVec S8x2048 1) natLt_1_32) (constantI S_ 32 0#32)
      reducesTo_S8x2048_S8_d1 h_S_ = fun _ => 2048#32 := by
    funext j
    idx_vars j
    exact num_tokens_full _
  unfold validMask
  rw [hc]
  pointwise []
  simp only [IntOp.cmpi, h]
  rfl

/-- The running count at position `n` of a full row is `n + 1`. -/
theorem counts_full (b : Fin 8) (n : Fin 2048) : counts (F := Ideal) (fun _ => 1#1) (ix2 b n) = BitVec.ofNat 32 (n.val + 1) := by
  have hn := n.isLt
  unfold counts Host.reduceWindow
  refine (Routing.foldl_addi_ofNat _ _ (fun k => if 2047 ≤ n.val + k.val then 1 else 0) (fun k _ => ?_) _ 0 rfl).trans ?_
  · have hw0 : ((⟨2, ![1, 2048]⟩ : Shape).rowMajor.symm k 0).val = 0 := by rw [Routing.symm2 (N := 2048) k]; rfl
    have hw : ((⟨2, ![1, 2048]⟩ : Shape).rowMajor.symm k 1).val = k.val := by rw [Routing.symm2 (N := 2048) k]; rfl
    have hk : k.val < 2048 := (k.cast (Routing.numel2 2048)).isLt
    dsimp only
    split
    · next hin =>
      have h1 := hin (1 : Fin 2)
      change 2047 ≤ n.val * 1 + ((⟨2, ![1, 2048]⟩ : Shape).rowMajor.symm k 1).val ∧ _ at h1
      rw [hw] at h1
      rw [if_pos (by omega)]
      rfl
    · next hin =>
      rw [if_neg fun hle => hin fun a => ?_]
      · rfl
      · match a with
        | ⟨0, _⟩ =>
          show 0 ≤ b.val * 1 + ((⟨2, ![1, 2048]⟩ : Shape).rowMajor.symm k 0).val
            ∧ b.val * 1 + ((⟨2, ![1, 2048]⟩ : Shape).rowMajor.symm k 0).val - 0 < 8
          rw [hw0]
          omega
        | ⟨1, _⟩ =>
          show 2047 ≤ n.val * 1 + ((⟨2, ![1, 2048]⟩ : Shape).rowMajor.symm k 1).val
            ∧ n.val * 1 + ((⟨2, ![1, 2048]⟩ : Shape).rowMajor.symm k 1).val - 2047 < 2048
          rw [hw]
          omega
  · rw [Nat.zero_add, Routing.map_finRange_val _ (fun w => if 2047 ≤ n.val + w then 1 else 0)]
    refine congrArg (BitVec.ofNat 32) ((congrArg (fun M => ((List.range M).map fun w => if 2047 ≤ n.val + w then 1 else 0).sum)
      (Routing.numel2 2048)).trans ((Routing.sum_window (fun _ => 1) 2047 n.val (by omega)).trans ?_))
    simp

/-- The position an output row reads is its own. -/
theorem plugIdx_iota (k : IVec S8x2048 32) (hk : ∀ (b : Fin 8) (n : Fin 2048), k (ix2 b n) = BitVec.ofNat 32 (n.val + 1))
    (b : Fin 8) (n : Fin 2048) (d : Fin 1024) : plugIdx (F := Ideal) k (ix3 b n d) = BitVec.ofNat 32 n.val := by
  have e : IntOp.subi (BitVec.ofNat 32 (n.val + 1)) 1#32 = BitVec.ofNat 32 n.val :=
    (StableHlo.Predicate.sub_one_ofNat (n.val + 1) (by omega) (by omega)).trans (by rw [Nat.add_sub_cancel])
  have hm : IntOp.maxsi (BitVec.ofNat 32 n.val) 0#32 = BitVec.ofNat 32 n.val := by
    apply BitVec.eq_of_toInt_eq
    have h0 := toInt_ofNat_of_lt (show n.val < 2 ^ 31 by omega)
    unfold IntOp.maxsi
    split
    · rfl
    · next h => simp only [BitVec.sle, BitVec.slt, h0, decide_eq_true_eq] at h; simp at h; rw [h]; rfl
  unfold plugIdx
  pointwise []
  rw [hk, e, hm]

/-! ## The scanned states read at those positions -/

/-- An index that is a position of its row is not changed by the wrap. -/
theorem wrapIdx_iota (i : IVec S8x2048x1024 32)
    (hi : ∀ (b : Fin 8) (n : Fin 2048) (d : Fin 1024), i (ix3 b n d) = BitVec.ofNat 32 n.val)
    (b : Fin 8) (n : Fin 2048) (d : Fin 1024) (z : Fin 1) : wrapIdx (F := Ideal) i (ix4 b n d z) = BitVec.ofNat 32 n.val := by
  unfold wrapIdx
  pointwise []
  rw [hi, word_not_neg n.val (by omega)]
  rfl

/-- Indices that are positions of their rows are inside them. -/
theorem inBounds_iota (w : IVec S8x2048x1024x1 32)
    (hw : ∀ (b : Fin 8) (n : Fin 2048) (d : Fin 1024) (z : Fin 1), w (ix4 b n d z) = BitVec.ofNat 32 n.val)
    (j : S8x2048x1024.Idx) : inBounds (F := Ideal) w j = 1#1 := by
  unfold inBounds
  refine all_set _ _ _ _ (fun i => ?_) (fun _ => rfl) j
  idx_vars i
  pointwise []
  rw [hw, word_nonneg _ (by omega), word_le_last _ (by omega)]
  rfl

/-- The batched gather along the positions, at the positions in order, is the array. -/
theorem gather_iota (x : Vec Ideal S8x2048x1024 .f32) (w : IVec S8x2048x1024x1 32)
    (hw : ∀ (b : Fin 8) (n : Fin 2048) (d : Fin 1024) (z : Fin 1), w (ix4 b n d z) = BitVec.ofNat 32 n.val)
    (b : Fin 8) (n : Fin 2048) (d : Fin 1024) :
    Host.gather gather_S8x2048x1024_S8x2048x1024x1_S8x2048x1024_n_1_02_02_1_3_111 x w (ix3 b n d) = x (ix3 b n d) := by
  unfold Host.gather
  congr 1
  funext a
  refine Fin.ext ?_
  show (gather_S8x2048x1024_S8x2048x1024x1_S8x2048x1024_n_1_02_02_1_3_111).start (ix3 b n d) w a
      + (gather_S8x2048x1024_S8x2048x1024x1_S8x2048x1024_n_1_02_02_1_3_111).batchCoord (ix3 b n d) a
      + (gather_S8x2048x1024_S8x2048x1024x1_S8x2048x1024_n_1_02_02_1_3_111).offCoord (ix3 b n d) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  have h0 : (0 : Fin 3) ∈ (gather_S8x2048x1024_S8x2048x1024x1_S8x2048x1024_n_1_02_02_1_3_111).operandBatchingDims :=
    List.mem_cons_self
  have h2 : (2 : Fin 3) ∈ (gather_S8x2048x1024_S8x2048x1024x1_S8x2048x1024_n_1_02_02_1_3_111).operandBatchingDims :=
    List.mem_cons_of_mem _ List.mem_cons_self
  rcases h012 with rfl | rfl | rfl
  · rw [GatherDims.start_batching _ _ _ _ h0, GatherDims.offCoord_eq_zero _ _ _ (fun h => ((GatherDims.mem_sKept _ _).mp h).2 h0)]
    simp only [Nat.zero_add, Nat.add_zero]
    unfold GatherDims.batchCoord
    rw [dif_pos h0]
    rfl
  · rw [GatherDims.batchCoord_eq_zero _ _ _ (fun h => by
        rcases List.mem_cons.mp h with h | h
        · exact absurd h (by decide)
        · exact absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S8x2048x1024_S8x2048x1024x1_S8x2048x1024_n_1_02_02_1_3_111).startIndexMap from
      List.mem_singleton.mpr rfl)]
    have hsi : (gather_S8x2048x1024_S8x2048x1024x1_S8x2048x1024_n_1_02_02_1_3_111).siIdx (ix3 b n d)
        ⟨List.idxOf (1 : Fin 3) (gather_S8x2048x1024_S8x2048x1024x1_S8x2048x1024_n_1_02_02_1_3_111).startIndexMap,
          List.idxOf_lt_length_iff.2 (List.mem_singleton.mpr rfl)⟩ = ix4 b n d (0 : Fin 1) := by
      funext c; refine Fin.ext ?_
      match c with
      | ⟨0, _⟩ => rfl
      | ⟨1, _⟩ => rfl
      | ⟨2, _⟩ => rfl
      | ⟨3, _⟩ => rfl
    rw [hsi, hw, toInt_ofNat_of_lt (show n.val < 2 ^ 31 by omega)]
    show min n.val (2048 - 1) = n.val
    omega
  · rw [GatherDims.start_batching _ _ _ _ h2, GatherDims.offCoord_eq_zero _ _ _ (fun h => ((GatherDims.mem_sKept _ _).mp h).2 h2)]
    simp only [Nat.zero_add, Nat.add_zero]
    unfold GatherDims.batchCoord
    rw [dif_pos h2]
    rfl

/-- Where every position is a boundary the result at a position is the scanned state of that position. -/
theorem plugged_full (o : Vec Ideal S2048x8x1024 .f32) (b : Fin 8) (n : Fin 2048) (d : Fin 1024) :
    plugged (F := Ideal) (fun _ => 1#1) o (ix3 b n d) = o (ix3 n b d) := by
  have hw := wrapIdx_iota _ (plugIdx_iota _ counts_full)
  unfold plugged takeAlong
  show Scalar.select _ _ _ = _
  rw [inBounds_iota _ hw, Scalar.select, if_pos (by rfl), gather_iota _ _ hw]
  unfold selected
  pointwise []
  rw [validMask_full]
  rfl

end Cert.ReferenceIdeal.Value

end

end
-- ==== Proof.RefStepRun.lean ====
/-
  The reference's run over one trip's step: at contents that hold a state (the state at the carried buffers, the set-up
  values at the loop's constants, the trip's number at its counter) one trip's values are the step's, one lemma each, so one
  trip keeps holding with `step` applied; what is left before the loop holds `init`; and the result is `plugged` of the mask
  and of the states the 2048 trips leave. The text follows the step printed for this program.
-/
module

public import proofs.«01_k».proof.Proof.RefHead
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step)

variable {F : FTy → Type} [FloatOps F]

variable (V0 : Valuation τ sig (Elt F)) (s : State F) (j : ℕ)

/-- The valuation holds the state, the set-up values and the trip's number. -/
structure Holds : Prop where
  f_3 : V0 (Proc.devRef .tc main_v17_3) = s.main_v17_3
  f_4 : V0 (Proc.devRef .tc main_v17_4) = s.main_v17_4
  f_0 : V0 (Proc.devRef .tc main_v17_0) = s.main_v17_0
  f_1 : V0 (Proc.devRef .tc main_v17_1) = s.main_v17_1
  n_2 : V0 (Proc.devRef .tc main_v17_2) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x1024 (V0 (Proc.devRef .tc main_v17_0)) (fun k => (((![V0 (Proc.devRef .tc main_v17_2), constantI S_ 32 0#32, constantI S_ 32 0#32] : Fin 3 → (⟨S_, .i32⟩ : BufTy).Contents (Elt F))) k (Shape.Idx.first h_S_)).toInt) sliceFits_S2048x8x1024_S1x8x1024 : (Proc.devRef .tc main_while0b_call3_v0 : DevRef τ sig).ty.Contents (Elt F)) = Cert.ReferenceIdeal.Step.b2 j s := by
  unfold Cert.ReferenceIdeal.Step.b2
  rw [← al_0 h, ← al_1 h, h.f_0, h.n_2]
  try rfl
set_option maxRecDepth 8192 in
theorem al_3 (h : Holds V0 s j) : (shapeCast S8x1024 (Host.dynamicSlice S1x8x1024 (V0 (Proc.devRef .tc main_v17_0)) (fun k => (((![V0 (Proc.devRef .tc main_v17_2), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024 : (Proc.devRef .tc main_while0b_v38 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call4_c : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x8 (V0 (Proc.devRef .tc main_v17_1)) (fun k => (((![V0 (Proc.devRef .tc main_v17_2), constantI S_ 32 0#32] : Fin 2 → (⟨S_, .i32⟩ : BufTy).Contents (Elt F))) k (Shape.Idx.first h_S_)).toInt) sliceFits_S2048x8_S1x8 : (Proc.devRef .tc main_while0b_call4_v0 : DevRef τ sig).ty.Contents (Elt F)) = Cert.ReferenceIdeal.Step.b5 j s := by
  unfold Cert.ReferenceIdeal.Step.b5
  rw [← al_4 h, h.f_1, h.n_2]
  try rfl
set_option maxRecDepth 8192 in
theorem al_6 (h : Holds V0 s j) : (res_main_while0b_v39 V0 : (Proc.devRef .tc main_while0b_v39 : DevRef τ sig).ty.Contents (Elt F)) = Cert.ReferenceIdeal.Step.b6 j s := by
  unfold res_main_while0b_v39 Cert.ReferenceIdeal.Step.b6
  rw [← al_5 h]
  try rfl
set_option maxRecDepth 8192 in
theorem al_7 (h : Holds V0 s j) : (broadcastInDim S8x1 ![0] bcast_S8_S8x1_0 (res_main_while0b_v39 V0) : (Proc.devRef .tc main_while0b_v40 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (constant S_ .f32 0x3F800000#32 : (Proc.devRef .tc main_while0b_cst_12 : DevRef τ sig).ty.Contents (Elt F)) = Cert.ReferenceIdeal.Step.b8 j s := by
  unfold Cert.ReferenceIdeal.Step.b8
  rfl
set_option maxRecDepth 8192 in
theorem al_9 (h : Holds V0 s j) : (broadcastInDim S8x1 ![] bcast_S_S8x1 (constant S_ .f32 0x3F800000#32) : (Proc.devRef .tc main_while0b_v41 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (subf (broadcastInDim S8x1 ![] bcast_S_S8x1 (constant S_ .f32 0x3F800000#32)) (broadcastInDim S8x1 ![0] bcast_S8_S8x1_0 (res_main_while0b_v39 V0)) : (Proc.devRef .tc main_while0b_v42 : DevRef τ sig).ty.Contents (Elt F)) = Cert.ReferenceIdeal.Step.b10 j s := by
  unfold Cert.ReferenceIdeal.Step.b10
  rw [← al_9 h, ← al_7 h]
  try rfl
set_option maxRecDepth 8192 in
theorem al_11 (h : Holds V0 s j) : (broadcastInDim S8x1024 ![0, 1] bcast_S8x1_S8x1024_0_1 (subf (broadcastInDim S8x1 ![] bcast_S_S8x1 (constant S_ .f32 0x3F800000#32)) (broadcastInDim S8x1 ![0] bcast_S8_S8x1_0 (res_main_while0b_v39 V0))) : (Proc.devRef .tc main_while0b_v43 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (mulf (broadcastInDim S8x1024 ![0, 1] bcast_S8x1_S8x1024_0_1 (subf (broadcastInDim S8x1 ![] bcast_S_S8x1 (constant S_ .f32 0x3F800000#32)) (broadcastInDim S8x1 ![0] bcast_S8_S8x1_0 (res_main_while0b_v39 V0)))) (V0 (Proc.devRef .tc main_v17_3)) : (Proc.devRef .tc main_while0b_v44 : DevRef τ sig).ty.Contents (Elt F)) = Cert.ReferenceIdeal.Step.b12 j s := by
  unfold Cert.ReferenceIdeal.Step.b12
  rw [← al_11 h, h.f_3]
  try rfl
set_option maxRecDepth 8192 in
theorem al_13 (h : Holds V0 s j) : (broadcastInDim S8x1 ![0] bcast_S8_S8x1_0 (res_main_while0b_v39 V0) : (Proc.devRef .tc main_while0b_v45 : DevRef τ sig).ty.Contents (Elt F)) = Cert.ReferenceIdeal.Step.b13 j s := by
  unfold Cert.ReferenceIdeal.Step.b13
  rw [← al_6 h]
  try rfl
set_option maxRecDepth 8192 in
theorem al_14 (h : Holds V0 s j) : (broadcastInDim S8x1024 ![0, 1] bcast_S8x1_S8x1024_0_1 (broadcastInDim S8x1 ![0] bcast_S8_S8x1_0 (res_main_while0b_v39 V0)) : (Proc.devRef .tc main_while0b_v46 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (mulf (broadcastInDim S8x1024 ![0, 1] bcast_S8x1_S8x1024_0_1 (broadcastInDim S8x1 ![0] bcast_S8_S8x1_0 (res_main_while0b_v39 V0))) (shapeCast S8x1024 (Host.dynamicSlice S1x8x1024 (V0 (Proc.devRef .tc main_v17_0)) (fun k => (((![V0 (Proc.devRef .tc main_v17_2), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024) : (Proc.devRef .tc main_while0b_v47 : DevRef τ sig).ty.Contents (Elt F)) = Cert.ReferenceIdeal.Step.b15 j s := by
  unfold Cert.ReferenceIdeal.Step.b15
  rw [← al_14 h, ← al_3 h]
  try rfl
set_option maxRecDepth 8192 in
theorem al_16 (h : Holds V0 s j) : (res_main_while0b_v48 V0 : (Proc.devRef .tc main_while0b_v48 : DevRef τ sig).ty.Contents (Elt F)) = Cert.ReferenceIdeal.Step.b16 j s := by
  unfold res_main_while0b_v48 Cert.ReferenceIdeal.Step.b16
  rw [← al_12 h, ← al_15 h]
  try rfl
set_option maxRecDepth 8192 in
theorem al_17 (h : Holds V0 s j) : (broadcastInDim S1x8x1024 ![1, 2] bcast_S8x1024_S1x8x1024_1_2 (res_main_while0b_v48 V0) : (Proc.devRef .tc main_while0b_call5_v0 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call5_c_0 : DevRef τ sig).ty.Contents (Elt F)) = Cert.ReferenceIdeal.Step.b19 j s := by
  unfold Cert.ReferenceIdeal.Step.b19
  rfl
set_option maxRecDepth 8192 in
theorem al_20 (h : Holds V0 s j) : (Host.dynamicUpdateSlice (V0 (Proc.devRef .tc main_v17_4)) (broadcastInDim S1x8x1024 ![1, 2] bcast_S8x1024_S1x8x1024_1_2 (res_main_while0b_v48 V0)) (fun k => (((![V0 (Proc.devRef .tc main_v17_2), constantI S_ 32 0#32, constantI S_ 32 0#32] : Fin 3 → (⟨S_, .i32⟩ : BufTy).Contents (Elt F))) k (Shape.Idx.first h_S_)).toInt) updateFits_S2048x8x1024_S1x8x1024 : (Proc.devRef .tc main_while0b_v49 : DevRef τ sig).ty.Contents (Elt F)) = Cert.ReferenceIdeal.Step.b20 j s := by
  unfold Cert.ReferenceIdeal.Step.b20
  rw [← al_17 h, ← al_18 h, ← al_19 h, h.f_4, h.n_2]
  try rfl

/-! One trip's step of the carried values is `step`, field by field; a counter steps to the next number. -/

theorem step_3 (h : Holds V0 s j) : step_main_v17_3 V0 = (step j s).main_v17_3 := by
  unfold step_main_v17_3 Cert.ReferenceIdeal.Step.step
  show id (res_main_while0b_v48 V0) = _
  rw [al_16 h]
  try rfl
theorem step_4 (h : Holds V0 s j) : step_main_v17_4 V0 = (step j s).main_v17_4 := by
  unfold step_main_v17_4 Cert.ReferenceIdeal.Step.step
  exact al_20 h
theorem step_2 (h : Holds V0 s j) : step_main_v17_2 V0 = constantI S_ 32 (BitVec.ofNat 32 (j + 1)) := by
  unfold step_main_v17_2
  rw [h.n_2]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_3 := (STEP_main_v17_3 V0).trans (step_3 h)
  f_4 := (STEP_main_v17_4 V0).trans (step_4 h)
  n_2 := (STEP_main_v17_2 V0).trans (step_2 h)
  f_0 := (STEP_main_v17_0 V0).trans h.f_0
  f_1 := (STEP_main_v17_1 V0).trans h.f_1

/-- The state the first trip starts from, of the memory the run starts from: zeros, and the operands position first. -/
def initState (m : (ℓ : Loc nD τ sig) → Buf (Elt F) ℓ) (c : Dev nD) : State F where
  main_v17_3 := broadcastInDim S8x1024 ![] bcast_S_S8x1024 (constant S_ .f32 0x00000000#32)
  main_v17_4 := broadcastInDim S2048x8x1024 ![] bcast_S_S2048x8x1024 (constant S_ .f32 0x00000000#32)
  main_v17_0 := transpose S2048x8x1024 [1, 0, 2] (m ((c.tc : Thread nD τ).loc main_arg0)) transposes_S8x2048x1024_S2048x8x1024_1_0_2
  main_v17_1 := transpose S2048x8 [1, 0] (sortedProbs (m ((c.tc : Thread nD τ).loc main_arg1)) (m ((c.tc : Thread nD τ).loc main_arg2))) transposes_S8x2048_S2048x8_1_0

variable (m : (ℓ : Loc nD τ sig) → Buf (Elt F) ℓ) (c : Dev nD)

/-- What the operations before the loop leave: the set-up values, number 0, the initial state. -/
theorem entry_holds : Holds (entryContents preI m c) (initState m c) 0 where
  f_3 := by simp only [entryContents, afterL_cons, afterL_nil]; exact entry_h _
  f_4 := by simp only [entryContents, afterL_cons, afterL_nil]; exact entry_out _
  f_0 := by
    simp only [entryContents, afterL_cons, afterL_nil]
    rw [entry_x, keep_main_arg0_hostOps0_4, keep_main_arg0_hostOps0_3, keep_main_arg0_hostOps0_2, keep_main_arg0_hostOps0_1, keep_main_arg0_hostOps0]
    rfl
  f_1 := by
    simp only [entryContents, afterL_cons, afterL_nil]
    rw [entry_p, head_probs]
    unfold initState
    rw [show launchContents m c (Proc.devRef .tc main_arg1) = m ((c.tc : Thread nD τ).loc main_arg1) from rfl,
      show launchContents m c (Proc.devRef .tc main_arg2) = m ((c.tc : Thread nD τ).loc main_arg2) from rfl]
  n_2 := ctr_entry m c

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with the result at `plugged` of
    state number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v37) = plugged (m ((c.tc : Thread nD τ).loc main_arg1)) (it c 2048).main_v17_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 2048
    ⟨(h c).1.trans (congrArg₂ plugged (iter_main_arg1 m c 2048) hk.f_4), (h c).2.1, (h c).2.2.1, (h c).2.2.2.1, (h c).2.2.2.2⟩) (Value.run m ρ)

end Cert.ReferenceIdeal.StepRun

end
-- ==== Proof.RefLoop.lean ====
/-
  What the reference's loop computes: one trip reads the trip's row of hidden states and of probabilities, makes the new
  state `(1 - p) * h + p * x` of the state `h` it was handed, and writes it into the trip's row of the states kept; so after
  2048 trips every row of the states kept is the moving average up to its position.
-/
module

public import proofs.«01_k».proof.Proof.RefStepRun
public import Idealize.ShloMosaic.Lib.DynamicIndex
public import Idealize.ShloMosaic.Lib.Pipeline.Value
public import Idealize.ShloMosaic.Lib.Pointwise

@[expose] public section

set_option maxRecDepth 16384

noncomputable section

namespace Cert.ReferenceIdeal.Value

open Cert.ReferenceIdeal Cert.ReferenceIdeal.Gen Cert.ReferenceIdeal.Step
open Idealize.ShloMosaic

/-! ## One trip, entry by entry -/

/-- The trip's row of hidden states. -/
theorem b3_apply (j : ℕ) (hj : j < 2048) (s : State Ideal) (b : Fin 8) (d : Fin 1024) :
    b3 j s (ix2 b d) = s.main_v17_0 (ix3 ⟨j, hj⟩ b d) := by
  have hoff : S2048x8x1024.Slices ![j, 0, 0] S1x8x1024 := ⟨rfl, fun a => by
    match a with
    | ⟨0, _⟩ => show j + 1 ≤ 2048; omega
    | ⟨1, _⟩ => show 0 + 8 ≤ 8; omega
    | ⟨2, _⟩ => show 0 + 1024 ≤ 1024; omega⟩
  have e : b2 j s = extractStridedSlice S1x8x1024 ![j, 0, 0] s.main_v17_0 hoff := by
    unfold b2
    refine Host.dynamicSlice_eq_extractStridedSlice _ _ _ _ _ hoff fun a => ?_
    match a with
    | ⟨0, _⟩ => exact toInt_ofNat_of_lt (show j < 2 ^ 31 by omega)
    | ⟨1, _⟩ => rfl
    | ⟨2, _⟩ => rfl
  unfold b3
  rw [e]
  pointwise []

/-- The trip's row of probabilities. -/
theorem b6_apply (j : ℕ) (hj : j < 2048) (s : State Ideal) (b : Fin 8) :
    b6 j s (ix1 b) = s.main_v17_1 (ix2 ⟨j, hj⟩ b) := by
  have hoff : S2048x8.Slices ![j, 0] S1x8 := ⟨rfl, fun a => by
    match a with
    | ⟨0, _⟩ => show j + 1 ≤ 2048; omega
    | ⟨1, _⟩ => show 0 + 8 ≤ 8; omega⟩
  have e : b5 j s = extractStridedSlice S1x8 ![j, 0] s.main_v17_1 hoff := by
    unfold b5
    refine Host.dynamicSlice_eq_extractStridedSlice _ _ _ _ _ hoff fun a => ?_
    match a with
    | ⟨0, _⟩ => exact toInt_ofNat_of_lt (show j < 2 ^ 31 by omega)
    | ⟨1, _⟩ => rfl
  unfold b6
  rw [e]
  pointwise []

/-- The new state. -/
theorem b16_apply (j : ℕ) (hj : j < 2048) (s : State Ideal) (b : Fin 8) (d : Fin 1024) :
    b16 j s (ix2 b d) = (1 - s.main_v17_1 (ix2 ⟨j, hj⟩ b)) * s.main_v17_3 (ix2 b d)
      + s.main_v17_1 (ix2 ⟨j, hj⟩ b) * s.main_v17_0 (ix3 ⟨j, hj⟩ b d) := by
  rw [← b3_apply j hj, ← b6_apply j hj]
  unfold b16 b12 b15 b11 b14 b10 b13 b9 b7 b8
  generalize b6 j s = p
  generalize b3 j s = x
  pointwise []

/-- The states kept: the trip's row the new state, every other row as before. -/
theorem b20_apply (j : ℕ) (hj : j < 2048) (s : State Ideal) (n : Fin 2048) (b : Fin 8) (d : Fin 1024) :
    b20 j s (ix3 n b d) = if n.val = j then b16 j s (ix2 b d) else s.main_v17_4 (ix3 n b d) := by
  have hoff : S2048x8x1024.Slices ![j, 0, 0] S1x8x1024 := ⟨rfl, fun a => by
    match a with
    | ⟨0, _⟩ => show j + 1 ≤ 2048; omega
    | ⟨1, _⟩ => show 0 + 8 ≤ 8; omega
    | ⟨2, _⟩ => show 0 + 1024 ≤ 1024; omega⟩
  have e : b20 j s = updateSlice s.main_v17_4 (b17 j s) ![j, 0, 0] hoff := by
    unfold b20
    refine Host.dynamicUpdateSlice_eq_updateSlice _ _ _ _ _ (fun a => ?_) hoff
    match a with
    | ⟨0, _⟩ =>
      show (min (max (BitVec.ofNat 32 j).toInt 0) ((2048 - 1 : ℕ) : ℤ)).toNat = j
      rw [toInt_ofNat_of_lt (show j < 2 ^ 31 by omega)]
      omega
    | ⟨1, _⟩ => rfl
    | ⟨2, _⟩ => rfl
  rw [e]
  unfold b17
  generalize b16 j s = y
  by_cases h : n.val = j
  · rw [if_pos h]
    subst h
    pointwise []
    simp
  · rw [if_neg h]
    pointwise []
    rw [dif_neg (by omega)]

/-! ## All trips -/

/-- The moving average of a sequence `x` with weights `p`, from zero, as the reference states it: the state after `n`
    positions. -/
def blend (p x : ℕ → EReal) : ℕ → EReal
  | 0 => 0
  | n + 1 => (1 - p n) * blend p x n + p n * x n

/-- The states the trips hand on from `s0`. -/
def states (s0 : State Ideal) : ℕ → State Ideal
  | 0 => s0
  | n + 1 => step n (states s0 n)

/-- No trip changes the rows of hidden states and of probabilities. -/
theorem states_rows (s0 : State Ideal) : ∀ n : ℕ,
    (states s0 n).main_v17_0 = s0.main_v17_0 ∧ (states s0 n).main_v17_1 = s0.main_v17_1
  | 0 => ⟨rfl, rfl⟩
  | n + 1 => states_rows s0 n

/-- From the zero state, the state after `n` trips is the moving average of the first `n` positions, and every row below
    `n` of the states kept the moving average up to its position. -/
theorem states_blend (s0 : State Ideal) (b : Fin 8) (d : Fin 1024) (p x : ℕ → EReal)
    (h0 : s0.main_v17_3 (ix2 b d) = 0) (hp : ∀ n : Fin 2048, s0.main_v17_1 (ix2 n b) = p n.val)
    (hx : ∀ n : Fin 2048, s0.main_v17_0 (ix3 n b d) = x n.val) : ∀ n : ℕ, n ≤ 2048 →
      (states s0 n).main_v17_3 (ix2 b d) = blend p x n
        ∧ ∀ k : Fin 2048, k.val < n → (states s0 n).main_v17_4 (ix3 k b d) = blend p x (k.val + 1)
  | 0, _ => ⟨h0, fun k hk => absurd hk (Nat.not_lt_zero _)⟩
  | n + 1, hn => by
    obtain ⟨ih, ihk⟩ := states_blend s0 b d p x h0 hp hx n (by omega)
    have hnew : b16 n (states s0 n) (ix2 b d) = blend p x (n + 1) := by
      rw [b16_apply n (by omega), (states_rows s0 n).1, (states_rows s0 n).2, hp, hx, ih]
      rfl
    refine ⟨hnew, fun k hk => ?_⟩
    show b20 n (states s0 n) (ix3 k b d) = _
    rw [b20_apply n (by omega)]
    by_cases h : k.val = n
    · rw [if_pos h, hnew, h]
    · rw [if_neg h, ihk k (by omega)]

end Cert.ReferenceIdeal.Value

end

end
-- ==== Proof.Equation.lean ====
/-
  The equation between the two programs, over the extended reals. The kernel steps by `h + p * (x - h)`, the reference by
  `(1 - p) * h + p * x`. A clipped probability is real, so where the hidden states are real every state is real and the two
  steps are equal; and where every position is a boundary the reference's order and its read-back move nothing, so both
  results are the moving averages.
-/
module

public import proofs.«01_k».proof.Proof.KernelValue
public import proofs.«01_k».proof.Proof.RefOrder
public import proofs.«01_k».proof.Proof.RefPlug
public import proofs.«01_k».proof.Proof.RefLoop
public import proofs.«01_k».proof.Pre_mask_full_and_states_finite

@[expose] public section

set_option maxRecDepth 16384

noncomputable section

namespace Cert.Equation

open Idealize.ShloMosaic Idealize.ShloMosaic.TcCoe Idealize.SL.Sem
open Cert.KernelIdeal.Ema (clip upd ema rowP rowX averages)
open Cert.ReferenceIdeal.Value (blend states states_blend sortedProbs sortedProbs_full plugged plugged_full)
open Cert.ReferenceIdeal.Step (State)

/-! ## The two steps -/

/-- A clipped probability is real, whatever it was before the clip. -/
theorem clip_real (p : EReal) : ∃ r : ℝ, clip p = (r : EReal) := by
  obtain ⟨hi, ehi⟩ : ∃ r : ℝ, Ideal.ofBits .f32 0x3F7FF972#32 = (r : EReal) := by
    simp [Ideal.ofBits, Ideal.ieee, -EReal.coe_mul]
  obtain ⟨lo, elo⟩ : ∃ r : ℝ, Ideal.ofBits .f32 0x38D1B717#32 = (r : EReal) := by
    simp [Ideal.ofBits, Ideal.ieee, -EReal.coe_mul]
  unfold clip
  rw [ehi, elo]
  have htop : min (hi : EReal) (max (lo : EReal) p) ≠ ⊤ :=
    ne_top_of_le_ne_top (EReal.coe_ne_top hi) (min_le_left _ _)
  have hbot : min (hi : EReal) (max (lo : EReal) p) ≠ ⊥ :=
    (lt_min (EReal.bot_lt_coe hi) (lt_of_lt_of_le (EReal.bot_lt_coe lo) (le_max_left _ _))).ne'
  exact ⟨_, (EReal.coe_toReal htop hbot).symm⟩

/-- On reals the two steps are equal, and their value is real. -/
theorem step_eq (p x h : ℝ) : ∃ r : ℝ,
    (1 - (p : EReal)) * (h : EReal) + (p : EReal) * (x : EReal) = (r : EReal) ∧ upd (p : EReal) (x : EReal) (h : EReal) = (r : EReal) := by
  refine ⟨(1 - p) * h + p * x, ?_, ?_⟩
  · rw [← EReal.coe_one, ← EReal.coe_sub, ← EReal.coe_mul, ← EReal.coe_mul, ← EReal.coe_add]
  · unfold upd
    rw [← EReal.coe_sub, ← EReal.coe_mul, ← EReal.coe_add]
    congr 1
    ring

/-- The reference's moving average of real numbers with real weights is the kernel's. -/
theorem blend_eq_ema (p x : ℕ → EReal) (hp : ∀ n, ∃ r : ℝ, p n = (r : EReal)) (hx : ∀ n, ∃ r : ℝ, x n = (r : EReal)) :
    ∀ n : ℕ, blend p x n = ema p x 0 n ∧ ∃ r : ℝ, ema p x 0 n = (r : EReal)
  | 0 => ⟨rfl, 0, rfl⟩
  | n + 1 => by
    obtain ⟨ih, h, eh⟩ := blend_eq_ema p x hp hx n
    obtain ⟨a, ea⟩ := hp n
    obtain ⟨y, ey⟩ := hx n
    obtain ⟨r, h1, h2⟩ := step_eq a y h
    have hk : ema p x 0 (n + 1) = (r : EReal) := by
      show upd (p n) (x n) (ema p x 0 n) = _
      rw [ea, ey, eh, h2]
    refine ⟨?_, r, hk⟩
    rw [hk]
    show (1 - p n) * blend p x n + p n * x n = _
    rw [ih, ea, ey, eh, h1]

/-- The weights of a row are real. -/
theorem rowP_real (P : Vec Ideal Cert.KernelIdeal.S8x2048x2 .f32) (b : Fin 8) (n : ℕ) : ∃ r : ℝ, rowP P b n = (r : EReal) := by
  unfold rowP
  split
  · exact clip_real _
  · exact ⟨0, rfl⟩

/-- The hidden states of a row are real where the array's are. -/
theorem rowX_real (X : Vec Ideal Cert.KernelIdeal.S8x2048x1024 .f32) (hX : ∀ i, ∃ r : ℝ, X i = (r : EReal)) (b : Fin 8)
    (d : Fin 1024) (n : ℕ) : ∃ r : ℝ, rowX X b d n = (r : EReal) := by
  unfold rowX
  split
  · exact hX _
  · exact ⟨0, rfl⟩

/-! ## The reference's result -/

section Result

variable (m : (ℓ : Loc Cert.ReferenceIdeal.nD Cert.ReferenceIdeal.τ Cert.ReferenceIdeal.sig) → Buf (Elt Ideal) ℓ)
  (c : Dev Cert.ReferenceIdeal.nD)

/-- Where every position is a boundary and the hidden states are real, what the reference makes of its loop's last state is
    the moving averages of all rows. -/
theorem reference_averages (X : Vec Ideal Cert.KernelIdeal.S8x2048x1024 .f32) (P : Vec Ideal Cert.KernelIdeal.S8x2048x2 .f32)
    (e0 : m ((c.tc : Thread Cert.ReferenceIdeal.nD Cert.ReferenceIdeal.τ).loc Cert.ReferenceIdeal.main_arg0) = X)
    (e1 : m ((c.tc : Thread Cert.ReferenceIdeal.nD Cert.ReferenceIdeal.τ).loc Cert.ReferenceIdeal.main_arg1) = fun _ => 1#1)
    (e2 : m ((c.tc : Thread Cert.ReferenceIdeal.nD Cert.ReferenceIdeal.τ).loc Cert.ReferenceIdeal.main_arg2) = P)
    (hX : ∀ i, ∃ r : ℝ, X i = (r : EReal)) :
    plugged (F := Ideal) (m ((c.tc : Thread Cert.ReferenceIdeal.nD Cert.ReferenceIdeal.τ).loc Cert.ReferenceIdeal.main_arg1))
      (states (Cert.ReferenceIdeal.StepRun.initState m c) 2048).main_v17_4 = averages X P := by
  rw [e1]
  funext i
  obtain ⟨b, n, d, rfl⟩ : ∃ (b : Fin 8) (n : Fin 2048) (d : Fin 1024), i = ix3 b n d := ⟨i 0, i 1, i 2, eq_ix3 i⟩
  refine (plugged_full _ b n d).trans ?_
  have hs := (states_blend (Cert.ReferenceIdeal.StepRun.initState m c) b d (rowP P b) (rowX X b d) ?_ ?_ ?_ 2048 le_rfl).2 n n.isLt
  · rw [hs, (blend_eq_ema _ _ (rowP_real P b) (rowX_real X hX b d) _).1]
    rfl
  · unfold Cert.ReferenceIdeal.StepRun.initState
    pointwise []
  · intro k
    unfold Cert.ReferenceIdeal.StepRun.initState
    rw [e1, e2]
    pointwise []
    refine (sortedProbs_full P b k).trans ?_
    unfold rowP
    rw [dif_pos k.isLt]
    rfl
  · intro k
    unfold Cert.ReferenceIdeal.StepRun.initState
    rw [e0]
    pointwise []
    unfold rowX
    rw [dif_pos k.isLt]

end Result

/-! ## The precondition -/

/-- An extended real whose absolute value is below the infinity is real. -/
theorem real_of_abs_lt (x : EReal) (h : max x (-x) < ⊤) : ∃ r : ℝ, x = (r : EReal) := by
  induction x using EReal.rec with
  | bot => simp at h
  | top => simp at h
  | coe r => exact ⟨r, rfl⟩

/-- Where the precondition holds of the arrays, every boundary bit is set and every hidden state is real. -/
theorem pre_gives [Cert.Pre_mask_full_and_states_finite.Facts] (X : Vec Ideal Cert.KernelIdeal.S8x2048x1024 .f32)
    (B : IVec Cert.KernelIdeal.S8x2048 1) (P : Vec Ideal Cert.KernelIdeal.S8x2048x2 .f32) (M : IVec Cert.KernelIdeal.S8x2048 1)
    (h : Cert.Pre_mask_full_and_states_finite.fn (F := Ideal) X B P M = fun _ => 1#1) :
    (B = fun _ => 1#1) ∧ ∀ i, ∃ r : ℝ, X i = (r : EReal) := by
  have both : ∀ a b : BitVec 1, IntOp.andi a b = 1#1 → a = 1#1 ∧ b = 1#1 := by decide
  have hk : ∀ (b : Fin 8) (n : Fin 2048) (d : Fin 1024),
      Ideal.cmp .olt (max (X (ix3 b n d)) (-X (ix3 b n d))) (Ideal.ofBits .f32 0x7F800000#32) = 1#1 ∧ B (ix2 b n) = 1#1 := by
    intro b n d
    have hi := congrFun h (ix3 b n d)
    refine both _ _ ?_
    refine Eq.trans ?_ hi
    pointwise [Cert.Pre_mask_full_and_states_finite.fn]
    rfl
  have htop : Ideal.ofBits .f32 0x7F800000#32 = ⊤ := by simp [Ideal.ofBits, Ideal.ieee]
  refine ⟨funext fun i => ?_, fun i => ?_⟩
  · rw [eq_ix2 i]
    exact (hk (i 0) (i 1) 0).2
  · rw [eq_ix3 i]
    have hlt := (hk (i 0) (i 1) (i 2)).1
    rw [htop] at hlt
    refine real_of_abs_lt _ ?_
    by_contra hn
    have hbit : BitVec.ofBool (decide (max (X (ix3 (i 0) (i 1) (i 2))) (-X (ix3 (i 0) (i 1) (i 2))) < ⊤)) = 1#1 := hlt
    rw [decide_eq_false hn] at hbit
    exact absurd hbit (by decide)

end Cert.Equation

end

end
-- ==== Proof.lean ====
/-
  The claims about the kernel, assembled: `Kernel` and `KernelIdeal` run and leave their arguments and the semaphores as they
  were, so does `ReferenceIdeal`, and from arguments that agree, with every position a boundary and every hidden state
  finite, the kernel's result and the reference's are equal over the extended reals.
-/
module

public import proofs.«01_k».proof.Defs
public import proofs.«01_k».proof.Proof.KernelFrame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The operations the precondition's text states its shapes for. -/
theorem preFacts : Cert.Pre_mask_full_and_states_finite.Facts := ⟨by decide, by decide⟩

/-- The reference's run, with the states its trips hand on. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v37)
            = Cert.ReferenceIdeal.Value.plugged (m ((c.tc : Thread Cert.ReferenceIdeal.nD Cert.ReferenceIdeal.τ).loc Cert.ReferenceIdeal.main_arg1))
                (Cert.ReferenceIdeal.Value.states (Cert.ReferenceIdeal.StepRun.initState m c) 2048).main_v17_4
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  Cert.ReferenceIdeal.StepRun.run_iter (F := Ideal) m ρ
    (fun c => Cert.ReferenceIdeal.Value.states (Cert.ReferenceIdeal.StepRun.initState m c)) (fun _ => rfl) (fun _ _ => rfl)

/-- The reference runs, ends with its arguments unchanged, and with every semaphore at zero (it has none). -/
theorem reference_quiescent : quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (reference_run m ρ)

/-- Kernel and reference end with equal results: the moving averages of all rows. -/
theorem equal_results : algebraic_KernelIdeal_ReferenceIdeal_pre_mask_full_and_states_finite
    (hKernelIdeal := Cert.KernelIdeal.Gen.facts) (hReferenceIdeal := Cert.ReferenceIdeal.Gen.facts)
    (hPre_mask_full_and_states_finite := preFacts) := fun m ρ m' ρ' hpre hagree => by
  haveI := preFacts
  refine ⟨fun c => Cert.KernelIdeal.Ema.averages (Cert.KernelIdeal.Ema.hid m c) (Cert.KernelIdeal.Ema.prob m c),
    Cert.KernelIdeal.Ema.run m ρ, (θ_run _ _ _).mono (fun r h c => ⟨(h c).1.trans ?_, (h c).2⟩) (reference_run m' ρ')⟩
  obtain ⟨hmask, hreal⟩ := Cert.Equation.pre_gives _ _ _ _ (hpre c)
  obtain ⟨a0, a1, a2, _⟩ := hagree c
  exact Cert.Equation.reference_averages m' c _ _ a0 (a1.trans hmask) a2 hreal

/-- Every claim of the certificate. -/
theorem claim : Cert.Claim := ⟨Cert.Kernel.Gen.facts, Cert.KernelIdeal.Gen.facts, Cert.ReferenceIdeal.Gen.facts, preFacts,
  fun m ρ _ => Cert.Kernel.Frame.quiescent m ρ,
  fun m ρ _ => Cert.KernelIdeal.Ema.quiescent m ρ,
  fun m ρ _ => Cert.KernelIdeal.Ema.quiescent m ρ,
  reference_quiescent,
  fun m ρ _ => reference_quiescent m ρ trivial,
  trivial,
  equal_results⟩

end Cert.Proof

end
